-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_

variable [Facts]

def fn_part1 {F : FTy → Type} [FloatOps F] (main_arg4 : FVec F S128x64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  main_v23

def fn {F : FTy → Type} [FloatOps F] (main_arg0 : FVec F S10000x128 .f32) (main_arg1 : FVec F S10000x10000 .f32) (main_arg2 : FVec F S128x128 .f32) (main_arg3 : FVec F S128 .f32) (main_arg4 : FVec F S128x64 .f32) (main_arg5 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S1x64 : Shape := ⟨2, ![1, 64]⟩
abbrev S10000x64 : Shape := ⟨2, ![10000, 64]⟩
abbrev S256x10000 : Shape := ⟨2, ![256, 10000]⟩
abbrev S256x64 : Shape := ⟨2, ![256, 64]⟩
abbrev S256x128 : Shape := ⟨2, ![256, 128]⟩
abbrev S256x1 : Shape := ⟨2, ![256, 1]⟩
abbrev S_ : Shape := ⟨0, ![]⟩
abbrev S512x10000 : Shape := ⟨2, ![512, 10000]⟩
abbrev S512x64 : Shape := ⟨2, ![512, 64]⟩

abbrev nBuf : Space → Nat
  | .hbm => 17
  | .vmem => 20
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x128, .f32⟩
  | .hbm, ⟨7, _⟩ => ⟨S1x64, .f32⟩
  | .hbm, ⟨8, _⟩ => ⟨S10000x128, .bf16⟩
  | .hbm, ⟨9, _⟩ => ⟨S10000x64, .fp8e4m3⟩
  | .hbm, ⟨10, _⟩ => ⟨S10000x10000, .fp8e4m3⟩
  | .hbm, ⟨11, _⟩ => ⟨S1x64, .f32⟩
  | .hbm, ⟨12, _⟩ => ⟨S_, .f32⟩
  | .hbm, ⟨13, _⟩ => ⟨S1x64, .f32⟩
  | .hbm, ⟨14, _⟩ => ⟨S1x64, .f32⟩
  | .hbm, ⟨15, _⟩ => ⟨S1x64, .f32⟩
  | .hbm, ⟨16, _⟩ => ⟨S10000x64, .f32⟩
  | .local _ .vmem, ⟨0, _⟩ => ⟨S10000x128, .f32⟩
  | .local _ .vmem, ⟨1, _⟩ => ⟨S128x128, .f32⟩
  | .local _ .vmem, ⟨2, _⟩ => ⟨S10000x128, .bf16⟩
  | .local _ .vmem, ⟨3, _⟩ => ⟨S256x10000, .f32⟩
  | .local _ .vmem, ⟨4, _⟩ => ⟨S256x10000, .f32⟩
  | .local _ .vmem, ⟨5, _⟩ => ⟨S10000x128, .bf16⟩
  | .local _ .vmem, ⟨6, _⟩ => ⟨S1x128, .f32⟩
  | .local _ .vmem, ⟨7, _⟩ => ⟨S128x64, .f32⟩
  | .local _ .vmem, ⟨8, _⟩ => ⟨S256x64, .fp8e4m3⟩
  | .local _ .vmem, ⟨9, _⟩ => ⟨S256x64, .fp8e4m3⟩
  | .local _ .vmem, ⟨10, _⟩ => ⟨S256x10000, .fp8e4m3⟩
  | .local _ .vmem, ⟨11, _⟩ => ⟨S256x10000, .fp8e4m3⟩
  | .local _ .vmem, ⟨12, _⟩ => ⟨S1x64, .f32⟩
  | .local _ .vmem, ⟨13, _⟩ => ⟨S1x64, .f32⟩
  | .local _ .vmem, ⟨14, _⟩ => ⟨S512x10000, .fp8e4m3⟩
  | .local _ .vmem, ⟨15, _⟩ => ⟨S512x10000, .fp8e4m3⟩
  | .local _ .vmem, ⟨16, _⟩ => ⟨S10000x64, .fp8e4m3⟩
  | .local _ .vmem, ⟨17, _⟩ => ⟨S1x64, .f32⟩
  | .local _ .vmem, ⟨18, _⟩ => ⟨S512x64, .f32⟩
  | .local _ .vmem, ⟨19, _⟩ => ⟨S512x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg5_1 : Ref sig .tc := ⟨.vmem, 11, rfl⟩
abbrev cc1_stg6_0 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem4_1 : DmaSem sig := 9
abbrev cc1_sem5_0 : DmaSem sig := 10
abbrev cc1_sem5_1 : DmaSem sig := 11
abbrev cc1_sem6_0 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x64 .fp8e4m3 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x10000 .fp8e4m3 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x10000 .fp8e4m3 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x64 .fp8e4m3 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S_ : Shape := ⟨0, ![]⟩
abbrev S10000x64 : Shape := ⟨2, ![10000, 64]⟩
abbrev S1x64 : Shape := ⟨2, ![1, 64]⟩

abbrev nBuf : Space → Nat
  | .hbm => 19
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S10000x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S10000x64, .f32⟩
  | .hbm, ⟨15, _⟩ => ⟨S10000x64, .f32⟩
  | .hbm, ⟨16, _⟩ => ⟨S1x64, .f32⟩
  | .hbm, ⟨17, _⟩ => ⟨S10000x64, .f32⟩
  | .hbm, ⟨18, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]
-- ==== Proof.Common.lean ====
/-
  What every module of the run shares: the resource algebra (one copy of the pipeline library's per pallas_call), the
  levels (none: no core owes another anything), and names for a buffer read through a memref.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.RegionsLoop
public import Idealize.ShloMosaic.Lib.Pipeline.FrameBody
public import Idealize.ShloMosaic.Lib.Pipeline.DatRel
public import Idealize.ShloMosaic.Lib.Tactic

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem

/-- The certificate's resource algebra: the pipeline library's algebra once per pallas_call, beside counters. -/
abbrev UU : Type := IProdConst (Fin 3) (UR sig nD τ) × Counters

/-- No body calls another. -/
abbrev 𝒱₀ : Variants := Variants.none
/-- No core owes another anything: no level is assigned. -/
abbrev L : GSem nD τ sig → Finset Unit := fun _ => ∅
abbrev lv : GSem nD τ sig → Unit → ℕ := fun _ _ => 0

end Cert.KernelIdeal.Run

end
-- ==== Proof.Record.lean ====
/-
  The record of one pallas_call of this program, built from proof data that say of every block an output window
  flushes only which contents it may have (`Rl`), not what it is: entered from every unscoped buffer held at a
  valuation, left with every unscoped buffer held at a valuation whose arrays satisfy the window relations.
-/
module

public import proofs.«01_k».proof.Proof.Common
public import Idealize.ShloMosaic.Lib.Pipeline.RegionArrays

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline

set_option backward.isDefEq.respectTransparency.types false

variable {F : FTy → Type} [FloatOps F]

local notation "𝕄" => MT nD τ sig Unit (Elt F) ℕ UU ℕ

/-- What a core keeps beside its buffers throughout: it owes nothing. -/
abbrev E (c : Dev nD) : sProp 𝕄 := iprop(∃ Wd, owes (c : Thread nD τ) (0 : CellTallies nD τ sig Unit) Wd)

/-- A pallas_call's proof data on each core. -/
abbrev PData : Type _ := (p : Fin 3) → (c : Dev nD) → Dat τ (Elt F) Unit ℕ UU ℕ (pin (pcfgs (F := F)) adm p) c

/-- Arrays of pipeline `p`, one per window. -/
abbrev Arrs (p : Fin 3) (c : Dev nD) : Type _ :=
  (w : Fin (pin (pcfgs (F := F)) adm p).W) → Buf (Elt F) (((pin (pcfgs (F := F)) adm p).win w).arr.view.loc (c.tc : Thread nD τ))

/-- For each window of each pallas_call, whether its contents are held to a relation only. -/
abbrev Marks : Type := (p : Fin 3) → Fin (pin (pcfgs (F := F)) adm p).W → Bool

/-- The relation a marked window's block meets when the body of each point leaves it. -/
abbrev Rels : Type := (p : Fin 3) → (c : Dev nD) → (w : Fin (pin (pcfgs (F := F)) adm p).W) → Fin (pin (pcfgs (F := F)) adm p).N
    → ((((pin (pcfgs (F := F)) adm p).win w).block.Idx → Elt F ((pin (pcfgs (F := F)) adm p).win w).elt) → Prop)

variable (pdats : PData (F := F)) (fgt : Marks (F := F)) (Rl : Rels (F := F))

/-- The data read relationally. -/
abbrev rels : (p : Fin 3) → (c : Dev nD) → RDat τ (Elt F) Unit ℕ UU ℕ (pin (pcfgs (F := F)) adm p) c :=
  fun p c => (pdats p c).toRRel (fgt p) (Rl p c)

/-- The arrays after the region: at some contents that meet the window relations. -/
theorem arraysAt_some {p : Fin 3} {c : Dev nD} (rd : RDat τ (Elt F) Unit ℕ UU ℕ (pin (pcfgs (F := F)) adm p) c) (n : Nat) :
    (rd.arraysAt n : sProp 𝕄) ⊢ iprop(∃ A : Arrs (F := F) p c, ⌜∀ w, rd.ArrAt w n (A w)⌝ ∗ rd.arrays A) := by
  unfold RDat.arraysAt RDat.arrays
  refine (BI.bigSep_exists_pi Finset.univ _).trans ?_
  iintro ⟨%A, H⟩
  ihave H' := (BI.bigSep_pure_sep Finset.univ (fun w => rd.ArrAt w n (A w)) _) $$ H
  icases H' with ⟨%hA, H⟩
  iexists A
  isplitr
  · ipureintro; exact fun w => hA w (Finset.mem_univ w)
  iexact H

/-- The record of pallas_call `p`, entered from every unscoped buffer at `W c`. It ends with them at `mk c A` for some arrays `A`
    that meet the window relations. -/
def record (p : Fin 3) (kit : LaunchFacts (nD := nD) (τ := τ) (pin (pcfgs (F := F)) adm) p)
    (hbody : ∀ c, BodyObligationRel (pdats p c) defs₀ 𝒱₀ () Set.univ (fgt p) (Rl p c))
    (howed : ∀ c t, (pdats p c).owed t = 0) (hrec : ∀ c, (pdats p c).recorded 0 = Set.univ)
    (hshare : ∀ c w, (pdats p c).share w = fullShare)
    (W : Dev nD → Valuation τ sig (Elt F)) (mk : (c : Dev nD) → Arrs (F := F) p c → Valuation τ sig (Elt F))
    (hA : ∀ c w, (pdats p c).A w = W c (Proc.devRef .tc (arrRef (pin (pcfgs (F := F)) adm p).spec w)))
    (hmkA : ∀ c A, (∀ w, (rels pdats fgt Rl p c).ArrAt w (pin (pcfgs (F := F)) adm p).N (A w)) →
      ∀ w, A w = mk c A (Proc.devRef .tc (arrRef (pin (pcfgs (F := F)) adm p).spec w)))
    (hmkO : ∀ c A, ∀ d ∉ arrRefs (τ := τ) (pcfgs (F := F) p).spec, mk c A d = W c d)
    (hin : ∀ c : Dev nD, (scopedRest (pin (pcfgs (F := F)) adm p).spec c : sProp 𝕄) ⊢ (pdats p c).Φ 0)
    (hout : ∀ c : Dev nD, (pdats p c).Φ (Fin.last (pin (pcfgs (F := F)) adm p).N) ⊢ (scopedRest (pin (pcfgs (F := F)) adm p).spec c : sProp 𝕄)) :
    RDat.RegionSeg (pcfgs (F := F)) adm (rels pdats fgt Rl) () defs₀ 𝒱₀ L lv p where
  win := kit.win.to₀
  block_pos := kit.block_pos
  stage_whole := kit.stage_whole
  K := PEmpty
  osem k := k.elim
  ho := Pipeline.OwnSemFacts.none _
  hbody c := (hbody c).toRRel
  hwaits c := (show (levAts L lv : sProp 𝕄) ⊢ emp from by iintro -; iempintro).trans
    (RDat.cellsWaits_of_owed_zero (pin (pcfgs (F := F)) adm) (rels pdats fgt Rl) () p c (howed c))
  pre c := iprop(StableHlo.held (c.tc : Thread nD τ) (ucRefs τ sig) (W c) ∗ E c)
  post c := iprop(∃ A : Arrs (F := F) p c, ⌜∀ w, (rels pdats fgt Rl p c).ArrAt w (pin (pcfgs (F := F)) adm p).N (A w)⌝
    ∗ StableHlo.held (c.tc : Thread nD τ) (ucRefs τ sig) (mk c A) ∗ E c)
  X c := BI.emp
  Y c := BI.emp
  Z c := StableHlo.held (c.tc : Thread nD τ) (ucRefs τ sig \ arrRefs (pcfgs (F := F) p).spec) (W c)
  hentry c := by
    show _ ⊢ |={Set.univ}=> iprop((pdats p c).arrays (pdats p c).A ∗ prefHeld (pcfgs (F := F) p).pre c (fun _ => fullShare) (adm p).1
        ∗ (pdats p c).owesAt () 0 ∗ _ ∗ _)
    rw [prefHeld_of_none _ rfl, arrays_held (pcfgs (F := F)) adm pdats p kit.toP c (hshare c) (pdats p c).A (W c) (hA c),
      StableHlo.held_sub_split (c.tc : Thread nD τ) (arrRefs_sub_ucRefs _ kit.win.arr_unscoped) (W c)]
    iintro ⟨⟨⟨Ha, Hr⟩, HO⟩, -, -⟩
    imodintro
    isplitl [Ha]; · iexact Ha
    isplitr; · iempintro
    isplitl [HO]
    · unfold Dat.owesAt owesWithin Dat.bound
      rw [howed c 0, hrec c]
      icases HO with ⟨%Wd, HO⟩; iexists Wd; isplitr; · ipureintro; exact fun _ _ => Or.inl trivial
      iexact HO
    isplitr; · iempintro
    iexact Hr
  hin c := (show _ ⊢ (scopedRest (pin (pcfgs (F := F)) adm p).spec c : sProp 𝕄) from by
    iintro ⟨-, -, Hr⟩; iexact Hr).trans (hin c)
  hout c := (hout c).trans (by
    rw [ownSems0_none]
    iintro Hr
    isplitr; · iempintro
    isplitr; · iempintro
    iexact Hr)
  hexit c := by
    show iprop((rels pdats fgt Rl p c).arraysAt (pin (pcfgs (F := F)) adm p).N ∗ (pdats p c).owesAt () (Fin.last (pin (pcfgs (F := F)) adm p).N) ∗ _ ∗ _) ⊢ _
    iintro ⟨Ha, HO, -, Hr⟩
    ihave Ha := (arraysAt_some (rels pdats fgt Rl p c) (pin (pcfgs (F := F)) adm p).N) $$ Ha
    icases Ha with ⟨%A, %h, Ha⟩
    ihave Ha := (show ((rels pdats fgt Rl p c).arrays A : sProp 𝕄) ⊢ (pdats p c).arrays A from .rfl) $$ Ha
    imodintro
    iexists A
    isplitr; · ipureintro; exact h
    rw [StableHlo.held_sub_split (c.tc : Thread nD τ) (arrRefs_sub_ucRefs (pcfgs (F := F) p).spec kit.win.arr_unscoped) (mk c A),
      ← arrays_held (pcfgs (F := F)) adm pdats p kit.toP c (hshare c) A (mk c A) (hmkA c A h),
      StableHlo.held_congr (c.tc : Thread nD τ) (S := ucRefs τ sig \ arrRefs (pcfgs (F := F) p).spec) (fun d hd => hmkO c A d (Finset.mem_sdiff.mp hd).2)]
    isplitl [Ha Hr]
    · isplitl [Ha]; · iexact Ha
      iexact Hr
    unfold Dat.owesAt owesWithin
    rw [howed c (Fin.last _)]
    icases HO with ⟨%Wd, -, HO⟩; iexists Wd; iexact HO

end Cert.KernelIdeal.Run

end
-- ==== Proof.Data.lean ====
/-
  The proof data of the three pallas_calls, over the contents `W` of the unscoped buffers at a region's entry: each input
  window holds its array's block, the rows past the array's end at anything; each output window's block is one of those
  its body may leave (`Left`); the second kernel's scratch holds one of the running column sums (`Sums`).
-/
module

public import proofs.«01_k».proof.Proof.Record

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline

set_option backward.isDefEq.respectTransparency.types false

variable {F : FTy → Type} [FloatOps F]

local notation "𝕄" => MT nD τ sig Unit (Elt F) ℕ UU ℕ

variable (W : Dev nD → Valuation τ sig (Elt F)) (c : Dev nD)

/-- Window `w` of a pallas_call holds its array's block at point `t`, and `d` past the array's end. -/
def got (p : Fin 3) (w : Fin (pin (pcfgs (F := F)) adm p).W) (t : Fin (pin (pcfgs (F := F)) adm p).N)
    (d : ((pin (pcfgs (F := F)) adm p).win w).block.Idx → Elt F ((pin (pcfgs (F := F)) adm p).win w).elt) :
    ((pin (pcfgs (F := F)) adm p).win w).block.Idx → Elt F ((pin (pcfgs (F := F)) adm p).win w).elt :=
  ((pin (pcfgs (F := F)) adm p).win w).fill ((pin (pcfgs (F := F)) adm p).grid.coords t) d
    ((((pin (pcfgs (F := F)) adm p).win w).blk t).view.read (Elt F) (W c (Proc.devRef .tc (arrRef (pin (pcfgs (F := F)) adm p).spec w))))

/-- The same with no contents named past the array's end. -/
def gotAny (p : Fin 3) (w : Fin (pin (pcfgs (F := F)) adm p).W) (t : Fin (pin (pcfgs (F := F)) adm p).N) :
    ((pin (pcfgs (F := F)) adm p).win w).block.Idx → Elt F ((pin (pcfgs (F := F)) adm p).win w).elt :=
  got W c p w t fun _ => Classical.arbitrary _

/-! ## The staged blocks, by operand -/

abbrev x0 (t : Fin cfg0.N) : Vec F S10000x128 .f32 := gotAny W c 0 (0 : Fin 3) t
abbrev w0 (t : Fin cfg0.N) : Vec F S128x128 .f32 := gotAny W c 0 (1 : Fin 3) t
abbrev a1 (t : Fin cfg1.N) (d : Vec F S256x10000 .f32) : Vec F S256x10000 .f32 := got W c 1 (0 : Fin 7) t d
abbrev s1 (t : Fin cfg1.N) : Vec F S10000x128 .bf16 := gotAny W c 1 (1 : Fin 7) t
abbrev b1 (t : Fin cfg1.N) : Vec F S1x128 .f32 := gotAny W c 1 (2 : Fin 7) t
abbrev w1 (t : Fin cfg1.N) : Vec F S128x64 .f32 := gotAny W c 1 (3 : Fin 7) t
abbrev q2 (t : Fin cfg2.N) (d : Vec F S512x10000 .fp8e4m3) : Vec F S512x10000 .fp8e4m3 := got W c 2 (0 : Fin 4) t d
abbrev s2 (t : Fin cfg2.N) : Vec F S10000x64 .fp8e4m3 := gotAny W c 2 (1 : Fin 4) t
abbrev b2 (t : Fin cfg2.N) : Vec F S1x64 .f32 := gotAny W c 2 (2 : Fin 4) t

/-- The column sums the second kernel adds at point `t`, where the rows past the array's end hold `d`. -/
abbrev sumAt (t : Fin cfg1.N) (d : Vec F S256x10000 .f32) : Vec F S1x64 .f32 :=
  k1_pay6 (grid1.coords t) (a1 W c t d) (s1 W c t) (b1 W c t) (w1 W c t)

/-- What the second kernel's scratch may hold after point `n`. -/
def Sums : (n : ℕ) → n < cfg1.N → Vec F S1x64 .f32 → Prop
  | 0, h => fun X => ∃ d, X = k1_pay1 (sumAt W c ⟨0, h⟩ d)
  | n + 1, h => fun X => ∃ d Y, Sums n (Nat.lt_of_succ_lt h) Y ∧ X = k1_pay2 (sumAt W c ⟨n + 1, h⟩ d) Y

/-- What the body of each pallas_call may leave in each of its output windows. -/
def Left : Rels (F := F) := fun p c w t => match p with
  | ⟨0, _⟩ => (match w with
    | ⟨2, _⟩ => fun X => X = k0_pay1 (x0 W c t) (w0 W c t)
    | _ => fun _ => True)
  | ⟨1, _⟩ => (match w with
    | ⟨4, _⟩ => fun X => ∃ d, X = k1_pay4 (a1 W c t d) (s1 W c t) (b1 W c t) (w1 W c t)
    | ⟨5, _⟩ => fun X => ∃ d, X = k1_pay5 (a1 W c t d)
    | ⟨6, _⟩ => fun X => Sums W c t.val t.isLt X
    | _ => fun _ => True)
  | ⟨2, _⟩ => (match w with
    | ⟨3, _⟩ => fun X => ∃ d, X = k2_pay1 (q2 W c t d) (s2 W c t) (b2 W c t)
    | _ => fun _ => True)

/-- The second kernel's scratch. -/
abbrev scM : Memref sig .tc .vmem S1x64 .f32 := Memref.whole cc1_scratch0

/-- The scoped buffers the second pallas_call does not use. -/
abbrev rest1 : sProp 𝕄 :=
  iprop((∃ f, ((c : Thread nD τ).loc cc0_stg0_0) ↦{fullShare} f) ∗ (∃ f, ((c : Thread nD τ).loc cc0_stg1_0) ↦{fullShare} f)
    ∗ (∃ f, ((c : Thread nD τ).loc cc0_stg2_0) ↦{fullShare} f)
    ∗ (∃ f, ((c : Thread nD τ).loc cc2_stg0_0) ↦{fullShare} f) ∗ (∃ f, ((c : Thread nD τ).loc cc2_stg0_1) ↦{fullShare} f)
    ∗ (∃ f, ((c : Thread nD τ).loc cc2_stg1_0) ↦{fullShare} f) ∗ (∃ f, ((c : Thread nD τ).loc cc2_stg2_0) ↦{fullShare} f)
    ∗ (∃ f, ((c : Thread nD τ).loc cc2_stg3_0) ↦{fullShare} f) ∗ (∃ f, ((c : Thread nD τ).loc cc2_stg3_1) ↦{fullShare} f))

/-- What each body keeps between its points: the scoped buffers, the second kernel's scratch at a running sum. -/
def Keep (p : Fin 3) (c : Dev nD) (t : Fin ((pin (pcfgs (F := F)) adm p).N + 1)) : sProp 𝕄 := match p with
  | ⟨0, _⟩ => scopedRest (pin (pcfgs (F := F)) adm 0).spec c
  | ⟨1, _⟩ => iprop(rest1 c ∗ ∃ Y, ⌜∀ n (h : n < cfg1.N), t.val = n + 1 → Sums W c n h Y⌝ ∗ owns (c : Thread nD τ) scM fullShare Y)
  | ⟨2, _⟩ => scopedRest (pin (pcfgs (F := F)) adm 2).spec c

/-- The proof data. -/
def dats : PData (F := F) := fun p c =>
  { A := fun w => W c (Proc.devRef .tc (arrRef (pin (pcfgs (F := F)) adm p).spec w))
    after := fun w t => gotAny W c p w t
    Φ := Keep W p c
    q := fun _ => fullShare
    owed := fun _ => 0 }

/-- What each body keeps beside its windows, from the data. -/
theorem dats_Φ (p : Fin 3) (t : Fin ((pin (pcfgs (F := F)) adm p).N + 1)) : (dats W p c).Φ t = Keep W p c t := rfl
/-- The first call keeps its unused scratch. -/
theorem keep0 (t : Fin (cfg0.N + 1)) : (Keep W 0 c t : sProp 𝕄) = scopedRest spec0 c := rfl
/-- The third call keeps its unused scratch. -/
theorem keep2 (t : Fin (cfg2.N + 1)) : (Keep W 2 c t : sProp 𝕄) = scopedRest spec2 c := rfl

/-- The output windows are the marked ones. -/
def marks : Marks (F := F) := fun p w => ((pin (pcfgs (F := F)) adm p).win w).isOut

/-- An input window whose transfers cut every point alike holds its block, fetched at this point or earlier. -/
theorem before_in (p : Fin 3) (w : Fin (pin (pcfgs (F := F)) adm p).W) (hw : ((pin (pcfgs (F := F)) adm p).win w).isOut = false)
    (hlive : ∀ i, (pin (pcfgs (F := F)) adm p).idle w i = false)
    (hclip : ∀ t t', ((pin (pcfgs (F := F)) adm p).win w).clip t = ((pin (pcfgs (F := F)) adm p).win w).clip t')
    (t : Fin (pin (pcfgs (F := F)) adm p).N) (d) : (dats W p c).before w t d = got W c p w t d :=
  (dats W p c).before_in_eq_fetched w hw hlive (fun _ _ _ => hclip _ _) (fun t => Window.cut_fill ..) t d

/-- An input window fetched at every point holds its block. -/
theorem before_fetch (p : Fin 3) (w : Fin (pin (pcfgs (F := F)) adm p).W) (t : Fin (pin (pcfgs (F := F)) adm p).N)
    (hf : ((pin (pcfgs (F := F)) adm p).win w).fetch t = true) (d) : (dats W p c).before w t d = got W c p w t d :=
  (dats W p c).before_fetched w t hf d

/-- The moved part of a held block, put back over anything, is the held block over it. -/
theorem fill_cut_got (p : Fin 3) (w : Fin (pin (pcfgs (F := F)) adm p).W) (t : Fin (pin (pcfgs (F := F)) adm p).N) (d) :
    ((pin (pcfgs (F := F)) adm p).win w).fill ((pin (pcfgs (F := F)) adm p).grid.coords t) d
      (((pin (pcfgs (F := F)) adm p).win w).cut ((pin (pcfgs (F := F)) adm p).grid.coords t) (gotAny W c p w t)) = got W c p w t d := by
  unfold gotAny got; rw [Window.cut_fill]

end Cert.KernelIdeal.Run

end
-- ==== Proof.Bodies.lean ====
/-
  The three kernel bodies, each run once: from staging buffers at given contents to the inputs as they were and the
  outputs at the body's pure values (the payloads of the generated skeletons) of those contents.
-/
module

public import proofs.«01_k».proof.Proof.Common
public import Idealize.ShloMosaic.Lib.VecWindow

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- The first kernel: the product of its two operands, rounded. -/
theorem run0 (c : Dev nD) (a0 : Memref sig .tc .vmem S10000x128 .f32) (h0 : a0.IsWhole) (a1 : Memref sig .tc .vmem S128x128 .f32) (h1 : a1.IsWhole)
    (a2 : Memref sig .tc .vmem S10000x128 .bf16) (h2 : a2.IsWhole) (X0 : Vec F S10000x128 .f32) (X1 : Vec F S128x128 .f32) (K : PUnit → sProp 𝕄) :
    iprop(owns (c : Thread nD τ) a0 fullShare X0 ∗ owns (c : Thread nD τ) a1 fullShare X1 ∗ (∃ d, owns (c : Thread nD τ) a2 fullShare d)
        ∗ (iprop(owns (c : Thread nD τ) a0 fullShare X0 ∗ owns (c : Thread nD τ) a1 fullShare X1
            ∗ owns (c : Thread nD τ) a2 fullShare (k0_pay1 X0 X1)) -∗ K ⟨⟩))
      ⊢ wp frame (wpE (defs₀ (F := F)) 𝒱₀ c none) Set.univ (cc0__s1_body a0 h0 a1 h1 a2 h2) K := by
  simp only [cc0__s1_body_eq_skeleton]; unfold cc0__s1_body_skel
  unfold owns
  iintro ⟨⟨%f0, %e0, H0⟩, ⟨%f1, %e1, H1⟩, ⟨%d2, %f2, -, H2⟩, Hk⟩
  sl_exec
  sl_step
  iapply Hk
  isplitl [H0]; · iexists _; isplitr; swap; (· iexact H0); ipureintro; exact e0
  isplitl [H1]; · iexists _; isplitr; swap; (· iexact H1); ipureintro; exact e1
  iexists _; isplitr; swap; (· iexact H2); ipureintro
  rw [View.read_writes_full, View.readAt_full, View.readAt_full, e0, e1]

/-- The third kernel: the product of its first two operands, scaled, plus the row of its third. -/
theorem run2 (c : Dev nD) (i : grid2.Coords) (a0 : Memref sig .tc .vmem S512x10000 .fp8e4m3) (h0 : a0.IsWhole) (a1 : Memref sig .tc .vmem S10000x64 .fp8e4m3) (h1 : a1.IsWhole)
    (a2 : Memref sig .tc .vmem S1x64 .f32) (h2 : a2.IsWhole) (a3 : Memref sig .tc .vmem S512x64 .f32) (h3 : a3.IsWhole)
    (X0 : Vec F S512x10000 .fp8e4m3) (X1 : Vec F S10000x64 .fp8e4m3) (X2 : Vec F S1x64 .f32) (K : PUnit → sProp 𝕄) :
    iprop(owns (c : Thread nD τ) a0 fullShare X0 ∗ owns (c : Thread nD τ) a1 fullShare X1 ∗ owns (c : Thread nD τ) a2 fullShare X2
        ∗ (∃ d, owns (c : Thread nD τ) a3 fullShare d)
        ∗ (iprop(owns (c : Thread nD τ) a0 fullShare X0 ∗ owns (c : Thread nD τ) a1 fullShare X1 ∗ owns (c : Thread nD τ) a2 fullShare X2
            ∗ owns (c : Thread nD τ) a3 fullShare (k2_pay1 X0 X1 X2)) -∗ K ⟨⟩))
      ⊢ wp frame (wpE (defs₀ (F := F)) 𝒱₀ c none) Set.univ (cc2__pass2_body i a0 h0 a1 h1 a2 h2 a3 h3) K := by
  simp only [cc2__pass2_body_eq_skeleton]; unfold cc2__pass2_body_skel
  unfold owns
  iintro ⟨⟨%f0, %e0, H0⟩, ⟨%f1, %e1, H1⟩, ⟨%f2, %e2, H2⟩, ⟨%d3, %f3, -, H3⟩, Hk⟩
  sl_exec
  sl_step
  iapply Hk
  isplitl [H0]; · iexists _; isplitr; swap; (· iexact H0); ipureintro; exact e0
  isplitl [H1]; · iexists _; isplitr; swap; (· iexact H1); ipureintro; exact e1
  isplitl [H2]; · iexists _; isplitr; swap; (· iexact H2); ipureintro; exact e2
  iexists _; isplitr; swap; (· iexact H3); ipureintro
  rw [View.read_writes_full, View.readAt_full, View.readAt_full, View.readAt_full, e0, e1, e2]

/-- The second kernel's test for the first point, as it is computed. -/
abbrev isFirst (i : grid1.Coords) : BitVec 1 := Scalar.cmpi .ne (Scalar.extui (Scalar.cmpi .eq (BitVec.ofNat 32 (i 0).val) 0#32) : BitVec 32) 0#32
/-- Its test for a later point. -/
abbrev isLater (i : grid1.Coords) : BitVec 1 := Scalar.cmpi .ne (Scalar.extui (Scalar.cmpi .sgt (BitVec.ofNat 32 (i 0).val) 0#32) : BitVec 32) 0#32

/-- The second kernel at its first point: the scratch is set to this block's column sums, whatever it held. -/
theorem run1_first (c : Dev nD) (i : grid1.Coords) (hf : isFirst i = 1#1) (hl : ¬ isLater i = 1#1)
    (a0 : Memref sig .tc .vmem S256x10000 .f32) (h0 : a0.IsWhole) (a1 : Memref sig .tc .vmem S10000x128 .bf16) (h1 : a1.IsWhole)
    (a2 : Memref sig .tc .vmem S1x128 .f32) (h2 : a2.IsWhole) (a3 : Memref sig .tc .vmem S128x64 .f32) (h3 : a3.IsWhole)
    (a4 : Memref sig .tc .vmem S256x64 .fp8e4m3) (h4 : a4.IsWhole) (a5 : Memref sig .tc .vmem S256x10000 .fp8e4m3) (h5 : a5.IsWhole)
    (a6 : Memref sig .tc .vmem S1x64 .f32) (h6 : a6.IsWhole) (a7 : Memref sig .tc .vmem S1x64 .f32) (h7 : a7.IsWhole)
    (X0 : Vec F S256x10000 .f32) (X1 : Vec F S10000x128 .bf16) (X2 : Vec F S1x128 .f32) (X3 : Vec F S128x64 .f32) (K : PUnit → sProp 𝕄) :
    iprop(owns (c : Thread nD τ) a0 fullShare X0 ∗ owns (c : Thread nD τ) a1 fullShare X1 ∗ owns (c : Thread nD τ) a2 fullShare X2
        ∗ owns (c : Thread nD τ) a3 fullShare X3
        ∗ (∃ d, owns (c : Thread nD τ) a4 fullShare d) ∗ (∃ d, owns (c : Thread nD τ) a5 fullShare d)
        ∗ (∃ d, owns (c : Thread nD τ) a6 fullShare d) ∗ (∃ d, owns (c : Thread nD τ) a7 fullShare d)
        ∗ (iprop(owns (c : Thread nD τ) a0 fullShare X0 ∗ owns (c : Thread nD τ) a1 fullShare X1 ∗ owns (c : Thread nD τ) a2 fullShare X2
            ∗ owns (c : Thread nD τ) a3 fullShare X3
            ∗ owns (c : Thread nD τ) a4 fullShare (k1_pay4 X0 X1 X2 X3) ∗ owns (c : Thread nD τ) a5 fullShare (k1_pay5 X0)
            ∗ owns (c : Thread nD τ) a6 fullShare (k1_pay1 (k1_pay6 i X0 X1 X2 X3))
            ∗ owns (c : Thread nD τ) a7 fullShare (k1_pay1 (k1_pay6 i X0 X1 X2 X3))) -∗ K ⟨⟩))
      ⊢ wp frame (wpE (defs₀ (F := F)) 𝒱₀ c none) Set.univ (cc1__pass1_body i a0 h0 a1 h1 a2 h2 a3 h3 a4 h4 a5 h5 a6 h6 a7 h7) K := by
  simp only [cc1__pass1_body_eq_skeleton]; unfold cc1__pass1_body_skel
  simp only [k1_part1_eq_skeleton]; unfold k1_part1_skel
  unfold owns
  iintro ⟨⟨%f0, %e0, H0⟩, ⟨%f1, %e1, H1⟩, ⟨%f2, %e2, H2⟩, ⟨%f3, %e3, H3⟩, ⟨%d4, %f4, -, H4⟩, ⟨%d5, %f5, -, H5⟩,
    ⟨%d6, %f6, -, H6⟩, ⟨%d7, %f7, -, H7⟩, Hk⟩
  sl_exec
  sl_step
  iapply Hk
  isplitl [H0]; · iexists _; isplitr; swap; (· iexact H0); ipureintro; exact e0
  isplitl [H1]; · iexists _; isplitr; swap; (· iexact H1); ipureintro; exact e1
  isplitl [H2]; · iexists _; isplitr; swap; (· iexact H2); ipureintro; exact e2
  isplitl [H3]; · iexists _; isplitr; swap; (· iexact H3); ipureintro; exact e3
  have e8 : k1_pay1 (k1_pay6 i (View.readAt (Elt F) a0.view (Rect.unit ![0, 0] S256x10000.size inb_S256x10000_S256x10000_0_0).toLoadRect f0)
        (View.readAt (Elt F) a1.view (Rect.unit ![0, 0] S10000x128.size inb_S10000x128_S10000x128_0_0).toLoadRect f1)
        (View.readAt (Elt F) a2.view (Rect.unit ![0, 0] S1x128.size inb_S1x128_S1x128_0_0).toLoadRect f2)
        (View.readAt (Elt F) a3.view (Rect.unit ![0, 0] S128x64.size inb_S128x64_S128x64_0_0).toLoadRect f3))
      = k1_pay1 (k1_pay6 i X0 X1 X2 X3) := by
    rw [View.readAt_full, View.readAt_full, View.readAt_full, View.readAt_full, e0, e1, e2, e3]
  isplitl [H4]
  · iexists _; isplitr; swap; (· iexact H4); ipureintro
    refine (View.read_writes_full (s := S256x64) a4.view f4 inb_S256x64_S256x64_0_0 _ []).trans ?_
    rw [View.readAt_full, View.readAt_full, View.readAt_full, View.readAt_full, e0, e1, e2, e3]
  isplitl [H5]
  · iexists _; isplitr; swap; (· iexact H5); ipureintro
    refine (View.read_writes_full (s := S256x10000) a5.view f5 inb_S256x10000_S256x10000_0_0 _ []).trans ?_
    rw [View.readAt_full, e0]
  isplitl [H6]
  · iexists _; isplitr; swap; (· iexact H6); ipureintro
    rw [View.read_writes_full]
    refine (View.readCov_full (s := S1x64) a7.view inb_S1x64_S1x64_0_0 inb_S1x64_S1x64_0_0 _ []).trans ?_
    exact e8
  iexists _; isplitr; swap; (· iexact H7); ipureintro
  refine (View.read_writes_full (s := S1x64) a7.view f7 inb_S1x64_S1x64_0_0 _ []).trans ?_
  exact e8

/-- The second kernel at a later point: this block's column sums are added to what the scratch held. -/
theorem run1_later (c : Dev nD) (i : grid1.Coords) (hf : ¬ isFirst i = 1#1) (hl : isLater i = 1#1)
    (a0 : Memref sig .tc .vmem S256x10000 .f32) (h0 : a0.IsWhole) (a1 : Memref sig .tc .vmem S10000x128 .bf16) (h1 : a1.IsWhole)
    (a2 : Memref sig .tc .vmem S1x128 .f32) (h2 : a2.IsWhole) (a3 : Memref sig .tc .vmem S128x64 .f32) (h3 : a3.IsWhole)
    (a4 : Memref sig .tc .vmem S256x64 .fp8e4m3) (h4 : a4.IsWhole) (a5 : Memref sig .tc .vmem S256x10000 .fp8e4m3) (h5 : a5.IsWhole)
    (a6 : Memref sig .tc .vmem S1x64 .f32) (h6 : a6.IsWhole) (a7 : Memref sig .tc .vmem S1x64 .f32) (h7 : a7.IsWhole)
    (X0 : Vec F S256x10000 .f32) (X1 : Vec F S10000x128 .bf16) (X2 : Vec F S1x128 .f32) (X3 : Vec F S128x64 .f32) (X7 : Vec F S1x64 .f32) (K : PUnit → sProp 𝕄) :
    iprop(owns (c : Thread nD τ) a0 fullShare X0 ∗ owns (c : Thread nD τ) a1 fullShare X1 ∗ owns (c : Thread nD τ) a2 fullShare X2
        ∗ owns (c : Thread nD τ) a3 fullShare X3
        ∗ (∃ d, owns (c : Thread nD τ) a4 fullShare d) ∗ (∃ d, owns (c : Thread nD τ) a5 fullShare d)
        ∗ (∃ d, owns (c : Thread nD τ) a6 fullShare d) ∗ owns (c : Thread nD τ) a7 fullShare X7
        ∗ (iprop(owns (c : Thread nD τ) a0 fullShare X0 ∗ owns (c : Thread nD τ) a1 fullShare X1 ∗ owns (c : Thread nD τ) a2 fullShare X2
            ∗ owns (c : Thread nD τ) a3 fullShare X3
            ∗ owns (c : Thread nD τ) a4 fullShare (k1_pay4 X0 X1 X2 X3) ∗ owns (c : Thread nD τ) a5 fullShare (k1_pay5 X0)
            ∗ owns (c : Thread nD τ) a6 fullShare (k1_pay2 (k1_pay6 i X0 X1 X2 X3) X7)
            ∗ owns (c : Thread nD τ) a7 fullShare (k1_pay2 (k1_pay6 i X0 X1 X2 X3) X7)) -∗ K ⟨⟩))
      ⊢ wp frame (wpE (defs₀ (F := F)) 𝒱₀ c none) Set.univ (cc1__pass1_body i a0 h0 a1 h1 a2 h2 a3 h3 a4 h4 a5 h5 a6 h6 a7 h7) K := by
  simp only [cc1__pass1_body_eq_skeleton]; unfold cc1__pass1_body_skel
  simp only [k1_part1_eq_skeleton]; unfold k1_part1_skel
  unfold owns
  iintro ⟨⟨%f0, %e0, H0⟩, ⟨%f1, %e1, H1⟩, ⟨%f2, %e2, H2⟩, ⟨%f3, %e3, H3⟩, ⟨%d4, %f4, -, H4⟩, ⟨%d5, %f5, -, H5⟩,
    ⟨%d6, %f6, -, H6⟩, ⟨%f7, %e7, H7⟩, Hk⟩
  sl_exec
  sl_step
  iapply Hk
  isplitl [H0]; · iexists _; isplitr; swap; (· iexact H0); ipureintro; exact e0
  isplitl [H1]; · iexists _; isplitr; swap; (· iexact H1); ipureintro; exact e1
  isplitl [H2]; · iexists _; isplitr; swap; (· iexact H2); ipureintro; exact e2
  isplitl [H3]; · iexists _; isplitr; swap; (· iexact H3); ipureintro; exact e3
  have e8 : k1_pay2 (k1_pay6 i (View.readAt (Elt F) a0.view (Rect.unit ![0, 0] S256x10000.size inb_S256x10000_S256x10000_0_0).toLoadRect f0)
        (View.readAt (Elt F) a1.view (Rect.unit ![0, 0] S10000x128.size inb_S10000x128_S10000x128_0_0).toLoadRect f1)
        (View.readAt (Elt F) a2.view (Rect.unit ![0, 0] S1x128.size inb_S1x128_S1x128_0_0).toLoadRect f2)
        (View.readAt (Elt F) a3.view (Rect.unit ![0, 0] S128x64.size inb_S128x64_S128x64_0_0).toLoadRect f3))
        (View.readAt (Elt F) a7.view (Rect.unit ![0, 0] S1x64.size inb_S1x64_S1x64_0_0).toLoadRect f7)
      = k1_pay2 (k1_pay6 i X0 X1 X2 X3) X7 := by
    rw [View.readAt_full, View.readAt_full, View.readAt_full, View.readAt_full, View.readAt_full, e0, e1, e2, e3, e7]
  isplitl [H4]
  · iexists _; isplitr; swap; (· iexact H4); ipureintro
    refine (View.read_writes_full (s := S256x64) a4.view f4 inb_S256x64_S256x64_0_0 _ []).trans ?_
    rw [View.readAt_full, View.readAt_full, View.readAt_full, View.readAt_full, e0, e1, e2, e3]
  isplitl [H5]
  · iexists _; isplitr; swap; (· iexact H5); ipureintro
    refine (View.read_writes_full (s := S256x10000) a5.view f5 inb_S256x10000_S256x10000_0_0 _ []).trans ?_
    rw [View.readAt_full, e0]
  isplitl [H6]
  · iexists _; isplitr; swap; (· iexact H6); ipureintro
    rw [View.read_writes_full]
    refine (View.readCov_full (s := S1x64) a7.view inb_S1x64_S1x64_0_0 inb_S1x64_S1x64_0_0 _ []).trans ?_
    exact e8
  iexists _; isplitr; swap; (· iexact H7); ipureintro
  refine (View.read_writes_full (s := S1x64) a7.view f7 inb_S1x64_S1x64_0_0 _ []).trans ?_
  exact e8

/-- The first point tests true for the first and false for the later one; -/
theorem first_of_zero (i : grid1.Coords) (h : (i 0).val = 0) : isFirst i = 1#1 ∧ ¬ isLater i = 1#1 := by
  unfold isFirst isLater; rw [h]; decide

/-- any other, the other way round. -/
theorem later_of_pos (i : grid1.Coords) (h : (i 0).val ≠ 0) : ¬ isFirst i = 1#1 ∧ isLater i = 1#1 := by
  have H : ∀ k : Fin 40, k.val ≠ 0 →
      ¬ Scalar.cmpi .ne (Scalar.extui (Scalar.cmpi .eq (BitVec.ofNat 32 k.val) 0#32) : BitVec 32) 0#32 = 1#1
        ∧ Scalar.cmpi .ne (Scalar.extui (Scalar.cmpi .sgt (BitVec.ofNat 32 k.val) 0#32) : BitVec 32) 0#32 = 1#1 := by decide
  exact H (i 0) h

end Cert.KernelIdeal.Run

end
-- ==== Proof.Sound0.lean ====
/-
  The first and the third kernel's bodies meet their obligations: each leaves its inputs as found and its output at the
  body's value of them.
-/
module

public import proofs.«01_k».proof.Proof.Data
public import proofs.«01_k».proof.Proof.Bodies

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline

set_option backward.isDefEq.respectTransparency.types false

variable {F : FTy → Type} [FloatOps F]

local notation "𝕄" => MT nD τ sig Unit (Elt F) ℕ UU ℕ

variable (W : Dev nD → Valuation τ sig (Elt F)) (c : Dev nD)

/-- The first pallas_call's body is its text over its windows' buffers. -/
theorem body0 (t : Fin cfg0.N) : defs₀ (F := F) .tc cfg0.body (cfg0.bodyArgs t (cfg0.slots t)) = bodyAt0 t := by unfold defs₀; rw [Defs.onTc_tc]
/-- The third pallas_call's body at point `t` is its text over the windows' buffers there. -/
theorem body2 (t : Fin cfg2.N) : defs₀ (F := F) .tc cfg2.body (cfg2.bodyArgs t (cfg2.slots t)) = bodyAt2 t := by unfold defs₀; rw [Defs.onTc_tc]

/-- Before the first body the input's window holds all of it. -/
theorem before0_0 (t : Fin cfg0.N) (d) : (dats W 0 c).before (0 : Fin 3) t d = x0 W c t := before_in W c 0 (0 : Fin 3) rfl (fun _ => rfl) (fun _ _ => rfl) t d
/-- The first weights' window holds all of them. -/
theorem before0_1 (t : Fin cfg0.N) (d) : (dats W 0 c).before (1 : Fin 3) t d = w0 W c t := before_in W c 0 (1 : Fin 3) rfl (fun _ => rfl) (fun _ _ => rfl) t d
/-- Before the third body the scaled matrix's window holds its rows. -/
theorem before2_0 (t : Fin cfg2.N) (d) : (dats W 2 c).before (0 : Fin 4) t d = q2 W c t d := before_fetch W c 2 (0 : Fin 4) t (fetch2_0 t) d
/-- The second product's window holds all of it. -/
theorem before2_1 (t : Fin cfg2.N) (d) : (dats W 2 c).before (1 : Fin 4) t d = s2 W c t := before_in W c 2 (1 : Fin 4) rfl (fun _ => rfl) (fun _ _ => rfl) t d
/-- The last row's window holds all of it. -/
theorem before2_2 (t : Fin cfg2.N) (d) : (dats W 2 c).before (2 : Fin 4) t d = b2 W c t := before_in W c 2 (2 : Fin 4) rfl (fun _ => rfl) (fun _ _ => rfl) t d

/-- The first kernel between what the pipeline hands it and what it takes back. -/
theorem triple0 (t : Fin cfg0.N) :
    iprop(scopedRest (pin (pcfgs (F := F)) adm 0).spec c ∗ (dats W 0 c).owesAt () t.castSucc
        ∗ (∃ d, owns (c : Thread nD τ) (st0_0 t) fullShare ((dats W 0 c).before (0 : Fin 3) t d))
        ∗ (∃ d, owns (c : Thread nD τ) (st0_1 t) fullShare ((dats W 0 c).before (1 : Fin 3) t d))
        ∗ (∃ Y, ⌜((dats W 0 c).toRRel (marks 0) (Left W 0 c)).Finds (2 : Fin 3) t Y⌝ ∗ owns (c : Thread nD τ) (st0_2 t) fullShare Y))
      ⊢ wp frame (wpE (defs₀ (F := F)) 𝒱₀ c none) Set.univ (bodyAt0 t) fun _ =>
        iprop(scopedRest (pin (pcfgs (F := F)) adm 0).spec c ∗ (dats W 0 c).owesAt () t.succ
          ∗ owns (c : Thread nD τ) (st0_0 t) fullShare (x0 W c t)
          ∗ owns (c : Thread nD τ) (st0_1 t) fullShare (w0 W c t)
          ∗ (∃ X, ⌜Left W 0 c (2 : Fin 3) t X⌝ ∗ owns (c : Thread nD τ) (st0_2 t) fullShare X)) := by
  iintro ⟨HΦ, HO, ⟨%d0, H0⟩, ⟨%d1, H1⟩, ⟨%Y, -, H2⟩⟩
  rw [before0_0, before0_1]
  iapply (run0 c _ _ _ _ _ _ (x0 W c t) (w0 W c t) _)
  isplitl [H0]; · iexact H0
  isplitl [H1]; · iexact H1
  isplitl [H2]; · iexists Y; iexact H2
  iintro ⟨H0, H1, H2⟩
  isplitl [HΦ]; · iexact HΦ
  isplitl [HO]; · iexact HO
  isplitl [H0]; · iexact H0
  isplitl [H1]; · iexact H1
  iexists _; isplitr; swap; (· iexact H2); ipureintro; exact rfl

/-- The first body leaves in its output window what `Left` allows. -/
theorem sound0 : BodyObligationRel (dats W 0 c) (defs₀ (F := F)) 𝒱₀ () Set.univ (marks (F := F) 0) (Left W 0 c) := fun t => by
  rw [bigSep_W0, bigSep_W0]
  exact triple_restated (triple0 W c t) (by rw [← body0]; rfl) .rfl fun _ => .rfl

/-- The third kernel between what the pipeline hands it and what it takes back. -/
theorem triple2 (t : Fin cfg2.N) :
    iprop(scopedRest (pin (pcfgs (F := F)) adm 2).spec c ∗ (dats W 2 c).owesAt () t.castSucc
        ∗ (∃ d, owns (c : Thread nD τ) (st2_0 t) fullShare ((dats W 2 c).before (0 : Fin 4) t d))
        ∗ (∃ d, owns (c : Thread nD τ) (st2_1 t) fullShare ((dats W 2 c).before (1 : Fin 4) t d))
        ∗ (∃ d, owns (c : Thread nD τ) (st2_2 t) fullShare ((dats W 2 c).before (2 : Fin 4) t d))
        ∗ (∃ Y, ⌜((dats W 2 c).toRRel (marks 2) (Left W 2 c)).Finds (3 : Fin 4) t Y⌝ ∗ owns (c : Thread nD τ) (st2_3 t) fullShare Y))
      ⊢ wp frame (wpE (defs₀ (F := F)) 𝒱₀ c none) Set.univ (bodyAt2 t) fun _ =>
        iprop(scopedRest (pin (pcfgs (F := F)) adm 2).spec c ∗ (dats W 2 c).owesAt () t.succ
          ∗ (∃ d, owns (c : Thread nD τ) (st2_0 t) fullShare
              (((pin (pcfgs (F := F)) adm 2).win (0 : Fin 4)).fill ((pin (pcfgs (F := F)) adm 2).grid.coords t) d
                (((pin (pcfgs (F := F)) adm 2).win (0 : Fin 4)).cut ((pin (pcfgs (F := F)) adm 2).grid.coords t) (gotAny W c 2 (0 : Fin 4) t))))
          ∗ owns (c : Thread nD τ) (st2_1 t) fullShare (s2 W c t)
          ∗ owns (c : Thread nD τ) (st2_2 t) fullShare (b2 W c t)
          ∗ (∃ X, ⌜Left W 2 c (3 : Fin 4) t X⌝ ∗ owns (c : Thread nD τ) (st2_3 t) fullShare X)) := by
  iintro ⟨HΦ, HO, ⟨%d0, H0⟩, ⟨%d1, H1⟩, ⟨%d2, H2⟩, ⟨%Y, -, H3⟩⟩
  rw [before2_0, before2_1, before2_2]
  iapply (run2 c (grid2.coords t) _ _ _ _ _ _ _ _ (q2 W c t d0) (s2 W c t) (b2 W c t) _)
  isplitl [H0]; · iexact H0
  isplitl [H1]; · iexact H1
  isplitl [H2]; · iexact H2
  isplitl [H3]; · iexists Y; iexact H3
  iintro ⟨H0, H1, H2, H3⟩
  isplitl [HΦ]; · iexact HΦ
  isplitl [HO]; · iexact HO
  isplitl [H0]; · iexists d0; rw [fill_cut_got]; iexact H0
  isplitl [H1]; · iexact H1
  isplitl [H2]; · iexact H2
  iexists _; isplitr; swap; (· iexact H3); ipureintro; exact ⟨d0, rfl⟩

/-- The third body, run at any point, leaves in its output window what `Left` allows. -/
theorem sound2 : BodyObligationRel (dats W 2 c) (defs₀ (F := F)) 𝒱₀ () Set.univ (marks (F := F) 2) (Left W 2 c) := fun t => by
  rw [bigSep_W2, bigSep_W2, dats_Φ, dats_Φ, keep2 W c, keep2 W c]
  exact triple_restated (triple2 W c t) (by rw [← body2]; rfl) .rfl fun _ => .rfl

end Cert.KernelIdeal.Run

end
-- ==== Proof.Sound1.lean ====
/-
  The second kernel's body meets its obligation: at the first point it sets its scratch to the block's column sums, at a
  later one it adds them, so the scratch and the third result hold a running sum after every point.
-/
module

public import proofs.«01_k».proof.Proof.Data
public import proofs.«01_k».proof.Proof.Bodies

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline

set_option backward.isDefEq.respectTransparency.types false

variable {F : FTy → Type} [FloatOps F]

local notation "𝕄" => MT nD τ sig Unit (Elt F) ℕ UU ℕ

variable (W : Dev nD → Valuation τ sig (Elt F)) (c : Dev nD)

/-- The second pallas_call's body at point `t` is its text over the windows' buffers there. -/
theorem body1 (t : Fin cfg1.N) : defs₀ (F := F) .tc cfg1.body (cfg1.bodyArgs t (cfg1.slots t)) = bodyAt1 t := by unfold defs₀; rw [Defs.onTc_tc]

/-- Before the body the matrix's window holds its rows. -/
theorem before1_0 (t : Fin cfg1.N) (d) : (dats W 1 c).before (0 : Fin 7) t d = a1 W c t d := before_fetch W c 1 (0 : Fin 7) t (fetch1_0 t) d
/-- The first product's window holds all of it. -/
theorem before1_1 (t : Fin cfg1.N) (d) : (dats W 1 c).before (1 : Fin 7) t d = s1 W c t := before_in W c 1 (1 : Fin 7) rfl (fun _ => rfl) (fun _ _ => rfl) t d
/-- The first bias's window holds all of it. -/
theorem before1_2 (t : Fin cfg1.N) (d) : (dats W 1 c).before (2 : Fin 7) t d = b1 W c t := before_in W c 1 (2 : Fin 7) rfl (fun _ => rfl) (fun _ _ => rfl) t d
/-- The second weights' window holds all of them. -/
theorem before1_3 (t : Fin cfg1.N) (d) : (dats W 1 c).before (3 : Fin 7) t d = w1 W c t := before_in W c 1 (3 : Fin 7) rfl (fun _ => rfl) (fun _ _ => rfl) t d

/-- The one grid coordinate of a point is its number. -/
theorem coord1 : ∀ t : Fin cfg1.N, (grid1.coords t 0).val = t.val := by decide +kernel

/-- The scratch after point `t`, as the invariant before the next point states it. -/
theorem next_sums (t : Fin cfg1.N) (X : Vec F S1x64 .f32) (h : Sums W c t.val t.isLt X) :
    ∀ n (hn : n < cfg1.N), t.succ.val = n + 1 → Sums W c n hn X := fun n hn e => by
  have : t.val = n := Nat.succ.inj e
  subst this; exact h

/-- The second kernel between what the pipeline hands it and what it takes back. -/
theorem triple1 (t : Fin cfg1.N) :
    iprop((rest1 c ∗ ∃ Y, ⌜∀ n (h : n < cfg1.N), t.castSucc.val = n + 1 → Sums W c n h Y⌝ ∗ owns (c : Thread nD τ) scM fullShare Y) ∗ (dats W 1 c).owesAt () t.castSucc
        ∗ (∃ d, owns (c : Thread nD τ) (st1_0 t) fullShare ((dats W 1 c).before (0 : Fin 7) t d))
        ∗ (∃ d, owns (c : Thread nD τ) (st1_1 t) fullShare ((dats W 1 c).before (1 : Fin 7) t d))
        ∗ (∃ d, owns (c : Thread nD τ) (st1_2 t) fullShare ((dats W 1 c).before (2 : Fin 7) t d))
        ∗ (∃ d, owns (c : Thread nD τ) (st1_3 t) fullShare ((dats W 1 c).before (3 : Fin 7) t d))
        ∗ (∃ Y, ⌜((dats W 1 c).toRRel (marks 1) (Left W 1 c)).Finds (4 : Fin 7) t Y⌝ ∗ owns (c : Thread nD τ) (st1_4 t) fullShare Y)
        ∗ (∃ Y, ⌜((dats W 1 c).toRRel (marks 1) (Left W 1 c)).Finds (5 : Fin 7) t Y⌝ ∗ owns (c : Thread nD τ) (st1_5 t) fullShare Y)
        ∗ (∃ Y, ⌜((dats W 1 c).toRRel (marks 1) (Left W 1 c)).Finds (6 : Fin 7) t Y⌝ ∗ owns (c : Thread nD τ) (st1_6 t) fullShare Y))
      ⊢ wp frame (wpE (defs₀ (F := F)) 𝒱₀ c none) Set.univ (bodyAt1 t) fun _ =>
        iprop((rest1 c ∗ ∃ Y, ⌜∀ n (h : n < cfg1.N), t.succ.val = n + 1 → Sums W c n h Y⌝ ∗ owns (c : Thread nD τ) scM fullShare Y) ∗ (dats W 1 c).owesAt () t.succ
          ∗ (∃ d, owns (c : Thread nD τ) (st1_0 t) fullShare
              (((pin (pcfgs (F := F)) adm 1).win (0 : Fin 7)).fill ((pin (pcfgs (F := F)) adm 1).grid.coords t) d
                (((pin (pcfgs (F := F)) adm 1).win (0 : Fin 7)).cut ((pin (pcfgs (F := F)) adm 1).grid.coords t) (gotAny W c 1 (0 : Fin 7) t))))
          ∗ owns (c : Thread nD τ) (st1_1 t) fullShare (s1 W c t)
          ∗ owns (c : Thread nD τ) (st1_2 t) fullShare (b1 W c t)
          ∗ owns (c : Thread nD τ) (st1_3 t) fullShare (w1 W c t)
          ∗ (∃ X, ⌜Left W 1 c (4 : Fin 7) t X⌝ ∗ owns (c : Thread nD τ) (st1_4 t) fullShare X)
          ∗ (∃ X, ⌜Left W 1 c (5 : Fin 7) t X⌝ ∗ owns (c : Thread nD τ) (st1_5 t) fullShare X)
          ∗ (∃ X, ⌜Left W 1 c (6 : Fin 7) t X⌝ ∗ owns (c : Thread nD τ) (st1_6 t) fullShare X)) := by
  iintro ⟨⟨HR, ⟨%S, %hS, HS⟩⟩, HO, ⟨%d0, H0⟩, ⟨%d1, H1⟩, ⟨%d2, H2⟩, ⟨%d3, H3⟩, ⟨%Y4, -, H4⟩, ⟨%Y5, -, H5⟩, ⟨%Y6, -, H6⟩⟩
  rw [before1_0, before1_1, before1_2, before1_3]
  -- what is left of the proof once the body has run and both the scratch and the third result hold a running sum `X`
  have close : ∀ X : Vec F S1x64 .f32, Sums W c t.val t.isLt X →
      iprop(rest1 c ∗ (dats W 1 c).owesAt () t.castSucc
        ∗ owns (c : Thread nD τ) (st1_0 t) fullShare (a1 W c t d0) ∗ owns (c : Thread nD τ) (st1_1 t) fullShare (s1 W c t)
        ∗ owns (c : Thread nD τ) (st1_2 t) fullShare (b1 W c t) ∗ owns (c : Thread nD τ) (st1_3 t) fullShare (w1 W c t)
        ∗ owns (c : Thread nD τ) (st1_4 t) fullShare (k1_pay4 (a1 W c t d0) (s1 W c t) (b1 W c t) (w1 W c t))
        ∗ owns (c : Thread nD τ) (st1_5 t) fullShare (k1_pay5 (a1 W c t d0))
        ∗ owns (c : Thread nD τ) (st1_6 t) fullShare X ∗ owns (c : Thread nD τ) scM fullShare X)
      ⊢ iprop((rest1 c ∗ ∃ Y, ⌜∀ n (h : n < cfg1.N), t.succ.val = n + 1 → Sums W c n h Y⌝ ∗ owns (c : Thread nD τ) scM fullShare Y) ∗ (dats W 1 c).owesAt () t.succ
          ∗ (∃ d, owns (c : Thread nD τ) (st1_0 t) fullShare
              (((pin (pcfgs (F := F)) adm 1).win (0 : Fin 7)).fill ((pin (pcfgs (F := F)) adm 1).grid.coords t) d
                (((pin (pcfgs (F := F)) adm 1).win (0 : Fin 7)).cut ((pin (pcfgs (F := F)) adm 1).grid.coords t) (gotAny W c 1 (0 : Fin 7) t))))
          ∗ owns (c : Thread nD τ) (st1_1 t) fullShare (s1 W c t)
          ∗ owns (c : Thread nD τ) (st1_2 t) fullShare (b1 W c t)
          ∗ owns (c : Thread nD τ) (st1_3 t) fullShare (w1 W c t)
          ∗ (∃ X, ⌜Left W 1 c (4 : Fin 7) t X⌝ ∗ owns (c : Thread nD τ) (st1_4 t) fullShare X)
          ∗ (∃ X, ⌜Left W 1 c (5 : Fin 7) t X⌝ ∗ owns (c : Thread nD τ) (st1_5 t) fullShare X)
          ∗ (∃ X, ⌜Left W 1 c (6 : Fin 7) t X⌝ ∗ owns (c : Thread nD τ) (st1_6 t) fullShare X)) := fun X hX => by
    iintro ⟨HR, HO, H0, H1, H2, H3, H4, H5, H6, HS⟩
    isplitl [HR HS]
    · isplitl [HR]; · iexact HR
      iexists X; isplitr; · ipureintro; exact next_sums W c t X hX
      iexact HS
    isplitl [HO]; · iexact HO
    isplitl [H0]; · iexists d0; rw [fill_cut_got]; iexact H0
    isplitl [H1]; · iexact H1
    isplitl [H2]; · iexact H2
    isplitl [H3]; · iexact H3
    isplitl [H4]; · iexists _; isplitr; swap; (· iexact H4); ipureintro; exact ⟨d0, rfl⟩
    isplitl [H5]; · iexists _; isplitr; swap; (· iexact H5); ipureintro; exact ⟨d0, rfl⟩
    iexists X; isplitr; · ipureintro; exact hX
    iexact H6
  obtain ⟨t, ht⟩ := t
  cases t with
  | zero =>
    obtain ⟨hf, hl⟩ := first_of_zero (grid1.coords ⟨0, ht⟩) (coord1 ⟨0, ht⟩)
    iapply (run1_first c (grid1.coords ⟨0, ht⟩) hf hl _ _ _ _ _ _ _ _ _ _ _ _ _ _ _ (Memref.isWhole_whole _) (a1 W c ⟨0, ht⟩ d0) (s1 W c ⟨0, ht⟩) (b1 W c ⟨0, ht⟩) (w1 W c ⟨0, ht⟩) _)
    isplitl [H0]; · iexact H0
    isplitl [H1]; · iexact H1
    isplitl [H2]; · iexact H2
    isplitl [H3]; · iexact H3
    isplitl [H4]; · iexists Y4; iexact H4
    isplitl [H5]; · iexists Y5; iexact H5
    isplitl [H6]; · iexists Y6; iexact H6
    isplitl [HS]; · iexists S; iexact HS
    iintro ⟨H0, H1, H2, H3, H4, H5, H6, HS⟩
    iapply (close _ ⟨d0, rfl⟩)
    isplitl [HR]; · iexact HR
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    iexact HS
  | succ n =>
    obtain ⟨hf, hl⟩ := later_of_pos (grid1.coords ⟨n + 1, ht⟩) (by rw [coord1]; exact Nat.succ_ne_zero n)
    iapply (run1_later c (grid1.coords ⟨n + 1, ht⟩) hf hl _ _ _ _ _ _ _ _ _ _ _ _ _ _ _ (Memref.isWhole_whole _) (a1 W c ⟨n + 1, ht⟩ d0) (s1 W c ⟨n + 1, ht⟩) (b1 W c ⟨n + 1, ht⟩) (w1 W c ⟨n + 1, ht⟩) S _)
    isplitl [H0]; · iexact H0
    isplitl [H1]; · iexact H1
    isplitl [H2]; · iexact H2
    isplitl [H3]; · iexact H3
    isplitl [H4]; · iexists Y4; iexact H4
    isplitl [H5]; · iexists Y5; iexact H5
    isplitl [H6]; · iexists Y6; iexact H6
    isplitl [HS]; · iexact HS
    iintro ⟨H0, H1, H2, H3, H4, H5, H6, HS⟩
    iapply (close _ ⟨d0, S, hS n _ rfl, rfl⟩)
    isplitl [HR]; · iexact HR
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    iexact HS

/-- The second body, run at any point, leaves in its windows what `Left` allows and keeps the scratch at a running sum. -/
theorem sound1 : BodyObligationRel (dats W 1 c) (defs₀ (F := F)) 𝒱₀ () Set.univ (marks (F := F) 1) (Left W 1 c) := fun t => by
  rw [bigSep_W1, bigSep_W1]
  exact triple_restated (triple1 W c t) (by rw [← body1]; rfl) .rfl fun _ => .rfl

end Cert.KernelIdeal.Run

end
-- ==== Proof.Chain.lean ====
/-
  The three pallas_calls as records over the contents between them: what the buffers hold after each (`U2` … `U5`), for
  contents that the windows' relations allow (`I2`, `I3`, `I5`), and the links from one to the next.
-/
module

public import proofs.«01_k».proof.Proof.Sound0
public import proofs.«01_k».proof.Proof.Sound1
public import Idealize.ShloMosaic.Lib.Pipeline.RegionsForgetLinks

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline

set_option backward.isDefEq.respectTransparency.types false

variable {F : FTy → Type} [FloatOps F]

local notation "𝕄" => MT nD τ sig Unit (Elt F) ℕ UU ℕ

/-- What the second pallas_call leaves: the rounded product, the scaled matrix, the column sums. -/
structure Mid (F : FTy → Type) where
  s2q : Vec F S10000x64 .fp8e4m3
  q : Vec F S10000x10000 .fp8e4m3
  ms : Vec F S1x64 .f32

variable (m : (ℓ : Loc nD τ sig) → Buf (Elt F) ℓ)

/-! ## The buffers between the items -/

/-- After the first pallas_call, which leaves `y`. -/
def U2 (y : Vec F S10000x128 .bf16) (c : Dev nD) : Valuation τ sig (Elt F) := Function.update (V1 m c) (Proc.devRef .tc main_v2) y
/-- After the second, which leaves `o`. -/
def U3 (y : Vec F S10000x128 .bf16) (o : Mid F) (c : Dev nD) : Valuation τ sig (Elt F) :=
  Function.update (Function.update (Function.update (U2 m y c) (Proc.devRef .tc main_v3_0) o.s2q) (Proc.devRef .tc main_v3_1) o.q) (Proc.devRef .tc main_v3_2) o.ms
/-- After the host's operations on the column sums. -/
def U4 (y : Vec F S10000x128 .bf16) (o : Mid F) (c : Dev nD) : Valuation τ sig (Elt F) := StableHlo.after hostOps2 (U3 m y o c)
/-- After the third, which leaves `z`. -/
def U5 (y : Vec F S10000x128 .bf16) (o : Mid F) (z : Vec F S10000x64 .f32) (c : Dev nD) : Valuation τ sig (Elt F) :=
  Function.update (U4 m y o c) (Proc.devRef .tc main_v7) z

/-- What pallas_call `p`, entered at `W`, may leave in its window `w`'s array. -/
def May (W : Dev nD → Valuation τ sig (Elt F)) (c : Dev nD) (p : Fin 3) (w : Fin (pin (pcfgs (F := F)) adm p).W) :
    Buf (Elt F) (((pin (pcfgs (F := F)) adm p).win w).arr.view.loc (c.tc : Thread nD τ)) → Prop :=
  (rels (dats W) marks (Left W) p c).ArrAt w (pin (pcfgs (F := F)) adm p).N

def I2 (y : Vec F S10000x128 .bf16) (c : Dev nD) : Prop := May (V1 m) c 0 (2 : Fin 3) y
def I3 (y : Vec F S10000x128 .bf16) (o : Mid F) (c : Dev nD) : Prop :=
  May (U2 m y) c 1 (4 : Fin 7) o.s2q ∧ May (U2 m y) c 1 (5 : Fin 7) o.q ∧ May (U2 m y) c 1 (6 : Fin 7) o.ms
def I5 (y : Vec F S10000x128 .bf16) (o : Mid F) (z : Vec F S10000x64 .f32) (c : Dev nD) : Prop := May (U4 m y o) c 2 (3 : Fin 4) z

/-- An input's array is left as it was. -/
theorem may_in (W : Dev nD → Valuation τ sig (Elt F)) (c : Dev nD) (p : Fin 3) (w : Fin (pin (pcfgs (F := F)) adm p).W)
    (hw : ((pin (pcfgs (F := F)) adm p).win w).isOut = false) (A) (h : May W c p w A) :
    A = W c (Proc.devRef .tc (arrRef (pin (pcfgs (F := F)) adm p).spec w)) := by
  unfold May at h
  rw [RDat.ArrAt_in _ w hw] at h
  exact h

/-- Two references that differ name buffers that differ. -/
theorem ne_ref {r r' : Ref sig .tc} (h : r ≠ r') : (Proc.devRef .tc r : DevRef τ sig) ≠ Proc.devRef .tc r' := StableHlo.devRef_ne_of_ne h

/-! ## The records -/

def mk0 (W : Dev nD → Valuation τ sig (Elt F)) (c : Dev nD) (A : Arrs (F := F) 0 c) : Valuation τ sig (Elt F) :=
  Function.update (W c) (Proc.devRef .tc main_v2) (A (2 : Fin 3))
def mk1 (W : Dev nD → Valuation τ sig (Elt F)) (c : Dev nD) (A : Arrs (F := F) 1 c) : Valuation τ sig (Elt F) :=
  Function.update (Function.update (Function.update (W c) (Proc.devRef .tc main_v3_0) (A (4 : Fin 7))) (Proc.devRef .tc main_v3_1) (A (5 : Fin 7)))
    (Proc.devRef .tc main_v3_2) (A (6 : Fin 7))
def mk2 (W : Dev nD → Valuation τ sig (Elt F)) (c : Dev nD) (A : Arrs (F := F) 2 c) : Valuation τ sig (Elt F) :=
  Function.update (W c) (Proc.devRef .tc main_v7) (A (3 : Fin 4))

/-- The first record changes its output alone. -/
theorem mk0_off (W : Dev nD → Valuation τ sig (Elt F)) (c A) (d : DevRef τ sig) (h : d ≠ Proc.devRef .tc main_v2) : mk0 W c A d = W c d :=
  Function.update_of_ne h _ _
/-- The second changes its three outputs alone. -/
theorem mk1_off (W : Dev nD → Valuation τ sig (Elt F)) (c A) (d : DevRef τ sig) (h0 : d ≠ Proc.devRef .tc main_v3_0) (h1 : d ≠ Proc.devRef .tc main_v3_1)
    (h2 : d ≠ Proc.devRef .tc main_v3_2) : mk1 W c A d = W c d := by
  unfold mk1; rw [Function.update_of_ne h2, Function.update_of_ne h1, Function.update_of_ne h0]
/-- The third changes its output alone. -/
theorem mk2_off (W : Dev nD → Valuation τ sig (Elt F)) (c A) (d : DevRef τ sig) (h : d ≠ Proc.devRef .tc main_v7) : mk2 W c A d = W c d :=
  Function.update_of_ne h _ _

/-- The second record at its first output. -/
theorem mk1_s2q (W : Dev nD → Valuation τ sig (Elt F)) (c : Dev nD) (A : Arrs (F := F) 1 c) : mk1 W c A (Proc.devRef .tc main_v3_0) = A (4 : Fin 7) := by
  unfold mk1
  rw [Function.update_of_ne (ne_ref (by decide)), Function.update_of_ne (ne_ref (by decide))]
  exact Function.update_self ..
/-- The second record at its second output. -/
theorem mk1_q (W : Dev nD → Valuation τ sig (Elt F)) (c : Dev nD) (A : Arrs (F := F) 1 c) : mk1 W c A (Proc.devRef .tc main_v3_1) = A (5 : Fin 7) := by
  unfold mk1
  rw [Function.update_of_ne (ne_ref (by decide))]
  exact Function.update_self ..
/-- The second record at its third output. -/
theorem mk1_ms (W : Dev nD → Valuation τ sig (Elt F)) (c : Dev nD) (A : Arrs (F := F) 1 c) : mk1 W c A (Proc.devRef .tc main_v3_2) = A (6 : Fin 7) := by
  unfold mk1
  exact Function.update_self ..

/-- The first record holds every window's array. -/
theorem mk0_arr (W : Dev nD → Valuation τ sig (Elt F)) (c : Dev nD) (A : Arrs (F := F) 0 c) (h : ∀ w, May W c 0 w (A w)) :
    ∀ w : Fin 3, A w = mk0 W c A (Proc.devRef .tc (arrRef spec0 w))
  | 0 => (may_in W c 0 (0 : Fin 3) rfl _ (h (0 : Fin 3))).trans (mk0_off W c A _ (ne_ref (r := main_arg0) (r' := main_v2) (by decide))).symm
  | 1 => (may_in W c 0 (1 : Fin 3) rfl _ (h (1 : Fin 3))).trans (mk0_off W c A _ (ne_ref (r := main_arg2) (r' := main_v2) (by decide))).symm
  | 2 => (Function.update_self (Proc.devRef .tc main_v2) (A (2 : Fin 3)) (W c)).symm
/-- The second record holds every window's array. -/
theorem mk1_arr (W : Dev nD → Valuation τ sig (Elt F)) (c : Dev nD) (A : Arrs (F := F) 1 c) (h : ∀ w, May W c 1 w (A w)) :
    ∀ w : Fin 7, A w = mk1 W c A (Proc.devRef .tc (arrRef spec1 w))
  | 0 => (may_in W c 1 (0 : Fin 7) rfl _ (h (0 : Fin 7))).trans (mk1_off W c A _ (ne_ref (r := main_arg1) (r' := main_v3_0) (by decide)) (ne_ref (r := main_arg1) (r' := main_v3_1) (by decide)) (ne_ref (r := main_arg1) (r' := main_v3_2) (by decide))).symm
  | 1 => (may_in W c 1 (1 : Fin 7) rfl _ (h (1 : Fin 7))).trans (mk1_off W c A _ (ne_ref (r := main_v2) (r' := main_v3_0) (by decide)) (ne_ref (r := main_v2) (r' := main_v3_1) (by decide)) (ne_ref (r := main_v2) (r' := main_v3_2) (by decide))).symm
  | 2 => (may_in W c 1 (2 : Fin 7) rfl _ (h (2 : Fin 7))).trans (mk1_off W c A _ (ne_ref (r := main_v0) (r' := main_v3_0) (by decide)) (ne_ref (r := main_v0) (r' := main_v3_1) (by decide)) (ne_ref (r := main_v0) (r' := main_v3_2) (by decide))).symm
  | 3 => (may_in W c 1 (3 : Fin 7) rfl _ (h (3 : Fin 7))).trans (mk1_off W c A _ (ne_ref (r := main_arg4) (r' := main_v3_0) (by decide)) (ne_ref (r := main_arg4) (r' := main_v3_1) (by decide)) (ne_ref (r := main_arg4) (r' := main_v3_2) (by decide))).symm
  | 4 => (mk1_s2q W c A).symm
  | 5 => (mk1_q W c A).symm
  | 6 => (mk1_ms W c A).symm
/-- The third record holds every window's array. -/
theorem mk2_arr (W : Dev nD → Valuation τ sig (Elt F)) (c : Dev nD) (A : Arrs (F := F) 2 c) (h : ∀ w, May W c 2 w (A w)) :
    ∀ w : Fin 4, A w = mk2 W c A (Proc.devRef .tc (arrRef spec2 w))
  | 0 => (may_in W c 2 (0 : Fin 4) rfl _ (h (0 : Fin 4))).trans (mk2_off W c A _ (ne_ref (r := main_v3_1) (r' := main_v7) (by decide))).symm
  | 1 => (may_in W c 2 (1 : Fin 4) rfl _ (h (1 : Fin 4))).trans (mk2_off W c A _ (ne_ref (r := main_v3_0) (r' := main_v7) (by decide))).symm
  | 2 => (may_in W c 2 (2 : Fin 4) rfl _ (h (2 : Fin 4))).trans (mk2_off W c A _ (ne_ref (r := main_v6) (r' := main_v7) (by decide))).symm
  | 3 => (Function.update_self (Proc.devRef .tc main_v7) (A (3 : Fin 4)) (W c)).symm

/-- A window's array is among the windows' arrays. -/
theorem mem_arrRefs {p : Fin 3} (w : Fin (pcfgs (F := F) p).W) (r : Ref sig .tc) (h : arrRef (pcfgs (F := F) p).spec w = r) :
    (Proc.devRef .tc r : DevRef τ sig) ∈ arrRefs (τ := τ) (pcfgs (F := F) p).spec :=
  Finset.mem_map.mpr ⟨r, Finset.mem_image.mpr ⟨w, Finset.mem_univ w, h⟩, rfl⟩

/-- Every window's array is held whole. -/
theorem share_full (W : Dev nD → Valuation τ sig (Elt F)) (p : Fin 3) (c : Dev nD) (w) : (dats W p c).share w = fullShare :=
  (dats W p c).share_full (fun _ => rfl) w

/-- The first pallas_call. -/
def rec0 (W : Dev nD → Valuation τ sig (Elt F)) : RDat.RegionSeg (pcfgs (F := F)) adm (rels (dats W) marks (Left W)) () defs₀ 𝒱₀ L lv 0 :=
  record (dats W) marks (Left W) 0 launch0 (fun c => sound0 W c) (fun _ _ => rfl) (fun _ => rfl) (share_full W 0) W (mk0 W) (fun _ _ => rfl)
    (fun c A h => mk0_arr W c A h)
    (fun c A d hd => mk0_off W c A d fun e => hd (e ▸ mem_arrRefs (p := 0) (2 : Fin 3) main_v2 rfl))
    (fun c => by rw [dats_Φ, keep0 W c] <;> exact .rfl) (fun c => by rw [dats_Φ, keep0 W c] <;> exact .rfl)

/-- The scoped buffers, the scratch at anything, are what the second kernel's body keeps before its first point. -/
theorem enter1 (W : Dev nD → Valuation τ sig (Elt F)) (c : Dev nD) : (scopedRest spec1 c : sProp 𝕄) ⊢ Keep W 1 c 0 := by
  rw [scopedRest1_eq]
  show _ ⊢ iprop(rest1 c ∗ ∃ Y, ⌜∀ n (h : n < cfg1.N), (0 : Fin (cfg1.N + 1)).val = n + 1 → Sums W c n h Y⌝ ∗ owns (c : Thread nD τ) scM fullShare Y)
  iintro ⟨H0, H1, H2, ⟨%f, HS⟩, H4, H5, H6, H7, H8, H9⟩
  isplitr [HS]
  · isplitl [H0]; · iexact H0
    isplitl [H1]; · iexact H1
    isplitl [H2]; · iexact H2
    isplitl [H4]; · iexact H4
    isplitl [H5]; · iexact H5
    isplitl [H6]; · iexact H6
    isplitl [H7]; · iexact H7
    isplitl [H8]; · iexact H8
    iexact H9
  iexists f; isplitr
  · ipureintro; intro n h e; exact absurd e (Nat.succ_ne_zero n).symm
  rw [owns_whole]; iexact HS

/-- What it keeps after its last point is the scoped buffers, the scratch at what it then holds. -/
theorem leave1 (W : Dev nD → Valuation τ sig (Elt F)) (c : Dev nD) : Keep W 1 c (Fin.last cfg1.N) ⊢ (scopedRest spec1 c : sProp 𝕄) := by
  rw [scopedRest1_eq]
  show iprop(rest1 c ∗ ∃ Y, ⌜∀ n (h : n < cfg1.N), (Fin.last cfg1.N).val = n + 1 → Sums W c n h Y⌝ ∗ owns (c : Thread nD τ) scM fullShare Y) ⊢ _
  iintro ⟨⟨H0, H1, H2, H4, H5, H6, H7, H8, H9⟩, ⟨%Y, -, HS⟩⟩
  isplitl [H0]; · iexact H0
  isplitl [H1]; · iexact H1
  isplitl [H2]; · iexact H2
  isplitl [HS]
  · iexists Y
    ihave HS' := (show (owns (c : Thread nD τ) scM fullShare Y : sProp 𝕄) ⊢ (((c : Thread nD τ).loc cc1_scratch0) ↦{fullShare} Y) from by rw [owns_whole]) $$ HS
    iexact HS'
  isplitl [H4]; · iexact H4
  isplitl [H5]; · iexact H5
  isplitl [H6]; · iexact H6
  isplitl [H7]; · iexact H7
  isplitl [H8]; · iexact H8
  iexact H9

/-- The second pallas_call. -/
def rec1 (W : Dev nD → Valuation τ sig (Elt F)) : RDat.RegionSeg (pcfgs (F := F)) adm (rels (dats W) marks (Left W)) () defs₀ 𝒱₀ L lv 1 :=
  record (dats W) marks (Left W) 1 launch1 (fun c => sound1 W c) (fun _ _ => rfl) (fun _ => rfl) (share_full W 1) W (mk1 W) (fun _ _ => rfl)
    (fun c A h => mk1_arr W c A h)
    (fun c A d hd => mk1_off W c A d (fun e => hd (e ▸ mem_arrRefs (p := 1) (4 : Fin 7) main_v3_0 rfl))
      (fun e => hd (e ▸ mem_arrRefs (p := 1) (5 : Fin 7) main_v3_1 rfl)) (fun e => hd (e ▸ mem_arrRefs (p := 1) (6 : Fin 7) main_v3_2 rfl)))
    (fun c => enter1 W c) (fun c => leave1 W c)

/-- The third pallas_call. -/
def rec2 (W : Dev nD → Valuation τ sig (Elt F)) : RDat.RegionSeg (pcfgs (F := F)) adm (rels (dats W) marks (Left W)) () defs₀ 𝒱₀ L lv 2 :=
  record (dats W) marks (Left W) 2 launch2 (fun c => sound2 W c) (fun _ _ => rfl) (fun _ => rfl) (share_full W 2) W (mk2 W) (fun _ _ => rfl)
    (fun c A h => mk2_arr W c A h)
    (fun c A d hd => mk2_off W c A d fun e => hd (e ▸ mem_arrRefs (p := 2) (3 : Fin 4) main_v7 rfl))
    (fun c => by rw [dats_Φ, keep2 W c] <;> exact .rfl) (fun c => by rw [dats_Φ, keep2 W c] <;> exact .rfl)

end Cert.KernelIdeal.Run

end
-- ==== Proof.Run.lean ====
/-
  The run: the host's operations and the three pallas_calls in their order, each entered at what the one before may have left.
  Every weakly fair execution terminates without a fault; it leaves the arguments as they were, the counters at zero, and in
  the result's buffer contents that the three pallas_calls' relations allow.
-/
module

public import proofs.«01_k».proof.Proof.Chain
public import Idealize.ShloMosaic.Lib.HostLoop.Lifted

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline Idealize.ShloMosaic.Rounds

set_option backward.isDefEq.respectTransparency.types false

variable {F : FTy → Type} [FloatOps F]

local notation "𝕄" => MT nD τ sig Unit (Elt F) ℕ UU ℕ

variable (m : (ℓ : Loc nD τ sig) → Buf (Elt F) ℓ)

/-- No host loop is called. -/
abbrev loops : Fin 0 → Prog (TpuEff nD τ sig (Elt F) (HostLoop.Sig (Pipeline.Sig Λ₀ (Fin 3) fun p => (pcfgs (F := F) p).Adm) 0) .tc) PUnit := fun l => l.elim0

/-- One entry of each pallas_call, with the entry's copy of the pipeline library's algebra. -/
abbrev tk (j : Fin 3) : Ticket (Ix := Unit) (Name := ℕ) (U := UU) (Lvl := ℕ) (nD := nD) (τ := τ) (pcfgs (F := F)) adm :=
  { p := j, pdats := dats fun _ _ => Classical.arbitrary _, EP := embAt j }

/-- No two of the pallas_calls' cells are the same cell. -/
theorem cells_inj : Function.Injective (Pipeline.cellOf (nD := nD) (τ := τ) (Pipeline.pin (pcfgs (F := F)) adm)) := cellOf_inj

/-! ## The five segments -/

abbrev Seg' : Type 1 := Pipeline.CSeg (pcfgs (F := F)) adm defs₀ 𝒱₀ L lv loops tk

def seg0 : Seg' (F := F) :=
  Pipeline.CSeg.ofOps _ _ _ _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) E
def seg1 : Seg' (F := F) :=
  Pipeline.CSeg.regionAtR (pcfgs (F := F)) adm () cells_inj defs₀ 𝒱₀ L lv loops tk 0 _ (rec0 (V1 m))
def seg2 : Seg' (F := F) :=
  Pipeline.CSeg.regionFR (pcfgs (F := F)) adm () cells_inj defs₀ 𝒱₀ L lv loops tk 1 _ (fun y => rec1 (U2 m y)) (fun y c => I2 m y c)
def seg3 : Seg' (F := F) :=
  Pipeline.CSeg.exSel (fun (o : Vec F S10000x128 .bf16 × Mid F) c => I2 m o.1 c ∧ I3 m o.1 o.2 c)
    (fun o => Pipeline.CSeg.ofOps _ _ _ _ _ _ _ _ (Pipeline.ucRefs τ sig) hostOps2
      (fun op h => Pipeline.sub_ucRefs op ((List.forall_iff_forall_mem.mp hostOps2_sub) op h))
      (fun op h => (List.forall_iff_forall_mem.mp hostOps2_fresh) op h) (U3 m o.1 o.2) E)
    (StableHlo.seq hostOps2) (fun _ => rfl) 0 (fun _ => le_rfl) ∅ (fun _ => rfl)
def seg4 : Seg' (F := F) :=
  Pipeline.CSeg.regionFR (pcfgs (F := F)) adm () cells_inj defs₀ 𝒱₀ L lv loops tk 2 _ (fun (o : Vec F S10000x128 .bf16 × Mid F) => rec2 (U4 m o.1 o.2))
    (fun o c => I2 m o.1 c ∧ I3 m o.1 o.2 c)

abbrev segs : List (Seg' (F := F)) := [seg0 m, seg1 m, seg2 m, seg3 m, seg4 m]

/-- The program over the labels of no host loop. -/
abbrev mainL (c : Dev nD) := HostLoop.liftProg (L := 0) (main (F := F) c)

/-- The program is the run of its segments. -/
theorem main_run (c : Dev nD) : mainL (F := F) c = Pipeline.CSeg.runL (segs m) := by
  have h : mainL (F := F) c = Pipeline.chain ((segs m).map Pipeline.CSeg.prog) := by
    unfold mainL
    rw [main_chain, HostLoop.liftProg_chain]
    simp only [List.map_cons, List.map_nil, HostLoop.liftProg_seq]
    rfl
  exact h.trans (by chain_rfl)

/-- No two segments run the same pallas_call. -/
theorem segs_disjoint : (segs m).Pairwise fun s s' => Disjoint s.T s'.T := by
  simp only [segs, List.pairwise_cons, List.mem_cons, List.mem_nil_iff, or_false, forall_eq_or_imp, forall_eq]
  refine ⟨⟨?_, ?_, ?_, ?_⟩, ⟨?_, ?_, ?_⟩, ⟨?_, ?_⟩, ?_, ?_⟩
  all_goals first | exact Finset.disjoint_empty_left _ | exact Finset.disjoint_empty_right _ | (show Disjoint ({_} : Finset (Fin 3)) {_}; decide) | simp

/-! ## The links -/

abbrev held' (c : Dev nD) (W : Valuation τ sig (Elt F)) : sProp 𝕄 := StableHlo.held (c : Thread nD τ) (Pipeline.ucRefs τ sig) W

/-- The states between the items. -/
abbrev S2 (c : Dev nD) : sProp 𝕄 := iprop(∃ y, held' c (U2 m y c) ∗ ⌜I2 m y c⌝ ∗ E c)
abbrev S3 (c : Dev nD) : sProp 𝕄 := iprop(∃ o : Vec F S10000x128 .bf16 × Mid F, held' c (U3 m o.1 o.2 c) ∗ ⌜I2 m o.1 c ∧ I3 m o.1 o.2 c⌝ ∗ E c)
abbrev S4 (c : Dev nD) : sProp 𝕄 := iprop(∃ o : Vec F S10000x128 .bf16 × Mid F, held' c (U4 m o.1 o.2 c) ∗ ⌜I2 m o.1 c ∧ I3 m o.1 o.2 c⌝ ∗ E c)
abbrev S5 (c : Dev nD) : sProp 𝕄 := iprop(∃ o : (Vec F S10000x128 .bf16 × Mid F) × Vec F S10000x64 .f32,
  held' c (U5 m o.1.1 o.1.2 o.2 c) ∗ ⌜I2 m o.1.1 c ∧ I3 m o.1.1 o.1.2 c ∧ I5 m o.1.1 o.1.2 o.2 c⌝)

/-- What the first host operations leave is the state before the first pallas_call. -/
theorem link1 (c : Dev nD) : (seg1 m).post c ⊢ S2 m c := by
  show iprop(∃ A : Arrs (F := F) 0 c, ⌜∀ w, May (V1 m) c 0 w (A w)⌝ ∗ held' c (mk0 (V1 m) c A) ∗ E c) ⊢ _
  iintro ⟨%A, %hA, H⟩
  iapply (held_ex_intro (c : Thread nD τ) (Pipeline.ucRefs τ sig) (fun y => U2 m y c) (fun y => I2 m y c) (E c) (A (2 : Fin 3)) (mk0 (V1 m) c A)
    (fun _ _ => rfl) (hA (2 : Fin 3)))
  iexact H

/-- And that is what the first pallas_call starts from. -/
theorem link1' (c : Dev nD) : S2 m c ⊢ (seg2 m).pre c :=
  Pipeline.CSeg.regionFR_pre (pcs := pcfgs (F := F)) (a := adm) (ι := ()) (phinj := cells_inj) (defs₀ := defs₀) (𝒱₀ := 𝒱₀) (L := L) (lv := lv) (loops := loops) (tk := tk)
    c fun _ _ => .rfl

/-- What the first pallas_call leaves is the state before the second. -/
theorem link2 (c : Dev nD) : (seg2 m).post c ⊢ S3 m c :=
  Pipeline.CSeg.regionFR_post (pcs := pcfgs (F := F)) (a := adm) (ι := ()) (phinj := cells_inj) (defs₀ := defs₀) (𝒱₀ := 𝒱₀) (L := L) (lv := lv) (loops := loops) (tk := tk)
    c fun y hy => by
      show iprop(∃ A : Arrs (F := F) 1 c, ⌜∀ w, May (U2 m y) c 1 w (A w)⌝ ∗ held' c (mk1 (U2 m y) c A) ∗ E c) ⊢ _
      iintro ⟨%A, %hA, H⟩
      iapply (held_ex_intro (c : Thread nD τ) (Pipeline.ucRefs τ sig) (fun o : Vec F S10000x128 .bf16 × Mid F => U3 m o.1 o.2 c)
        (fun o => I2 m o.1 c ∧ I3 m o.1 o.2 c) (E c) (y, ⟨A (4 : Fin 7), A (5 : Fin 7), A (6 : Fin 7)⟩) (mk1 (U2 m y) c A)
        (fun _ _ => rfl) ⟨hy, hA (4 : Fin 7), hA (5 : Fin 7), hA (6 : Fin 7)⟩)
      iexact H

/-- And that is what the second starts from. -/
theorem link2' (c : Dev nD) : S3 m c ⊢ (seg3 m).pre c := by
  show _ ⊢ iprop(∃ o : Vec F S10000x128 .bf16 × Mid F, ⌜I2 m o.1 c ∧ I3 m o.1 o.2 c⌝ ∗ held' c (U3 m o.1 o.2 c) ∗ E c)
  iintro ⟨%o, Hh, %ho, HE⟩
  iexists o
  isplitr; · ipureintro; exact ho
  isplitl [Hh] <;> iassumption

/-- What the second leaves is the state before the host's operations. -/
theorem link3 (c : Dev nD) : (seg3 m).post c ⊢ S4 m c :=
  Pipeline.CSeg.exSel_post c fun o ho => by
    show iprop(held' c (U4 m o.1 o.2 c) ∗ E c) ⊢ _
    iintro H
    iapply (held_ex_intro (c : Thread nD τ) (Pipeline.ucRefs τ sig) (fun o : Vec F S10000x128 .bf16 × Mid F => U4 m o.1 o.2 c)
      (fun o => I2 m o.1 c ∧ I3 m o.1 o.2 c) (E c) o (U4 m o.1 o.2 c) (fun _ _ => rfl) ho)
    iexact H

/-- And that is what the host's operations start from. -/
theorem link3' (c : Dev nD) : S4 m c ⊢ (seg4 m).pre c := by
  show _ ⊢ iprop(∃ o : Vec F S10000x128 .bf16 × Mid F, ⌜I2 m o.1 c ∧ I3 m o.1 o.2 c⌝ ∗ held' c (U4 m o.1 o.2 c) ∗ E c)
  iintro ⟨%o, Hh, %ho, HE⟩
  iexists o
  isplitr; · ipureintro; exact ho
  isplitl [Hh] <;> iassumption

/-- What the host's operations leave is the state before the third. -/
theorem link4 (c : Dev nD) : (seg4 m).post c ⊢ iprop(S5 m c ∗ ∃ Wd, owes (c.tc : Thread nD τ) (0 : CellTallies nD τ sig Unit) Wd) :=
  Pipeline.CSeg.regionFR_post (pcs := pcfgs (F := F)) (a := adm) (ι := ()) (phinj := cells_inj) (defs₀ := defs₀) (𝒱₀ := 𝒱₀) (L := L) (lv := lv) (loops := loops) (tk := tk)
    c fun o ho => by
      show iprop(∃ A : Arrs (F := F) 2 c, ⌜∀ w, May (U4 m o.1 o.2) c 2 w (A w)⌝ ∗ held' c (mk2 (U4 m o.1 o.2) c A) ∗ E c) ⊢ _
      iintro ⟨%A, %hA, Hh, HE⟩
      isplitl [Hh]
      · iexists (o, (A (3 : Fin 4) : Vec F S10000x64 .f32))
        isplitl [Hh]; · iexact Hh
        ipureintro; exact ⟨ho.1, ho.2, hA (3 : Fin 4)⟩
      iexact HE

/-! ## The launch and the end -/

/-- The launch gives what the first segment starts from. -/
theorem hinit (g : Dev nD → PrngReg) :
    iprop((bigSep Finset.univ fun c : Dev nD => iprop(unscopedBufs c (fun b => m ((c.tc : Thread nD τ).loc b)) ∗ unscopedSems0 c
        ∗ owes (c.tc : Thread nD τ) (0 : CellTallies nD τ sig Unit) ∅ ∗ Pipeline.launchCred (fun _ => 0) c ∗ prngReg c (g c) ∗ emp)) ∗ levAts L lv)
      ⊢ (|={Set.univ}=> bigSep Finset.univ fun c => iprop(held' c (V0 m c) ∗ E c) : sProp 𝕄) := by
  have h1 (c : Dev nD) : iprop(unscopedBufs c (fun b => m ((c.tc : Thread nD τ).loc b)) ∗ unscopedSems0 c
        ∗ owes (c.tc : Thread nD τ) (0 : CellTallies nD τ sig Unit) ∅ ∗ Pipeline.launchCred (fun _ => 0) c ∗ prngReg c (g c) ∗ emp)
      ⊢ (iprop(held' c (V0 m c) ∗ E c) : sProp 𝕄) := by
    rw [show unscopedBufs c (fun b => m ((c : Thread nD τ).loc b)) = StableHlo.held (c : Thread nD τ) (Pipeline.ucRefs τ sig) (V0 m c) from Pipeline.unscopedBufs_held c (V0 m c)]
    iintro ⟨Hh, -, HO, -, -, -⟩
    isplitl [Hh]; · iexact Hh
    iexists ∅; iexact HO
  iintro ⟨H, -⟩
  ihave H' := (show _ ⊢ (bigSep Finset.univ fun c => iprop(held' c (V0 m c) ∗ E c) : sProp 𝕄) from bigSep_mono fun c _ => h1 c) $$ H
  imodintro
  iexact H'

/-- What the end of the run shows on one core. -/
def End (c : Dev nD) (s : MemSt nD τ sig (Elt F)) : Prop :=
  (∃ y o z, I2 m y c ∧ I3 m y o c ∧ I5 m y o z c ∧ s.mem ((c.tc : Thread nD τ).loc main_v7) = z)
    ∧ ∀ r ∈ [main_arg0, main_arg1, main_arg2, main_arg3, main_arg4, main_arg5], s.mem ((c.tc : Thread nD τ).loc r) = m ((c.tc : Thread nD τ).loc r)

/-- No item writes an argument. -/
theorem U5_arg (y : Vec F S10000x128 .bf16) (o : Mid F) (z : Vec F S10000x64 .f32) (c : Dev nD) :
    ∀ r ∈ [main_arg0, main_arg1, main_arg2, main_arg3, main_arg4, main_arg5], U5 m y o z c (Proc.devRef .tc r) = m ((c.tc : Thread nD τ).loc r) := by
  intro r hr
  have hn : ∀ r' ∈ [main_v0, main_v1, main_v2, main_v3_0, main_v3_1, main_v3_2, main_cst, main_v4, main_v5, main_v6, main_v7], r ≠ r' := by
    revert hr r; decide
  unfold U5
  rw [Function.update_of_ne (ne_ref (hn _ (by decide)))]
  unfold U4
  have h2 : r ∉ hostOps2_W := fun h => by
    rcases List.mem_map.mp (id h : r ∈ hostOps2_W.map id) with ⟨r', h', rfl⟩
    exact hn r' (by revert h'; revert r'; decide) rfl
  rw [StableHlo.after_of_writes_sub hostOps2 _ hostOps2_writes h2]
  unfold U3 U2
  rw [Function.update_of_ne (ne_ref (hn _ (by decide))), Function.update_of_ne (ne_ref (hn _ (by decide))), Function.update_of_ne (ne_ref (hn _ (by decide))),
    Function.update_of_ne (ne_ref (hn _ (by decide)))]
  refine V1_of m c r ?_
  revert hr r; decide

/-- The run over the labels of no host loop. -/
theorem run_lifted (g : Dev nD → PrngReg) :
    θ_run (HostLoop.defs loops defs) (onTc (τ := τ) (mainL (F := F))) ⟨m, fun _ => 0, g⟩ (fun r => (∀ c : Dev nD, End m c r.2) ∧ r.2.sem = fun _ => 0) :=
  Pipeline.θ_run_regions_loop_kit_sems (pcfgs (F := F)) adm cells_inj defs₀ 𝒱₀ L lv loops tk m g mainL (segs m)
    (fun c Q => by rw [main_run m c]) (segs_disjoint m)
    (O₀ := fun _ => 0) (hL := fun _ _ => rfl) (G := fun _ => iprop(emp))
    (u₀ := ((fun _ => Rounds.initOf (Pipeline.cells (Pipeline.pin (pcfgs (F := F)) adm) cells_inj) (Pipeline.launchToks (Pipeline.pin (pcfgs (F := F)) adm) cells_inj)), 1))
    (hu₀ := by
      iintro Hu
      ihave H := (ownU_pair _ _) $$ Hu
      icases H with ⟨HX, -⟩
      ihave HY := (own_iprod (J := Fin 3) (B := Counters) _) $$ HX
      imodintro
      isplitl [HY]; · iexact HY
      iapply (show (emp : sProp 𝕄) ⊢ bigSep Finset.univ fun _ : Dev nD => iprop(emp) from by rw [Finset.univ_unique, bigSep_singleton])
      iempintro)
    (T₀ := fun c => iprop(held' c (V0 m c) ∗ E c)) (Tₙ := S5 m)
    (hch := ⟨fun _ => .rfl, fun _ => .rfl, fun c => (link1 m c).trans (link1' m c), fun c => (link2 m c).trans (link2' m c),
      fun c => (link3 m c).trans (link3' m c), link4 m⟩)
    (hinit := hinit m g)
    (QY := End m)
    (hfin := fun c s' => by
      unfold S5 held' StableHlo.held
      iintro ⟨⟨%o, Hh, %ho⟩, HSI⟩
      ihave Hp := (pointsTo_read_all (Pipeline.ucRefs τ sig) (fun b => (((c : Thread nD τ)).1, b)) (U5 m o.1.1 o.1.2 o.2 c) s') $$ [Hh HSI]
      · isplitl [Hh] <;> iassumption
      icases Hp with ⟨%hb, HSI⟩
      imodintro
      isplitr
      · ipureintro
        refine ⟨⟨o.1.1, o.1.2, o.2, ho.1, ho.2.1, ho.2.2, ?_⟩, fun r hr => ?_⟩
        · exact (hb _ (Finset.mem_filter.mpr ⟨StableHlo.devRef_mem_tcRefs main_v7, by decide⟩)).trans (Function.update_self ..)
        · exact (hb _ (Finset.mem_filter.mpr ⟨StableHlo.devRef_mem_tcRefs r, by revert hr r; decide⟩)).trans (U5_arg m o.1.1 o.1.2 o.2 c r hr)
      iexact HSI)
    (hQ := fun _ h hz => ⟨h, funext fun g => hz g (.inr (regions_no_unscoped g.2))⟩)

/-- THE RUN. -/
theorem run (g : Dev nD → PrngReg) :
    θ_run defs (onTc (τ := τ) (main (F := F))) ⟨m, fun _ => 0, g⟩ (fun r => (∀ c : Dev nD, End m c r.2) ∧ r.2.sem = fun _ => 0) :=
  HostLoop.θ_run_of_lift (fun l => l.elim0) defs main _ _ (run_lifted m g)

end Cert.KernelIdeal.Run

end
-- ==== Proof.Transfer.lean ====
/-
  The kernel and its idealization are one text: at the machine's floats their procedures and their @main are the same terms.
-/
module

public import proofs.«01_k».proof.Defs

@[expose] public section

set_option maxRecDepth 16384

namespace Cert.KernelIdeal.Run

open Idealize.ShloMosaic Idealize.SL.Sem

/-- The kernels' bodies are the same, body by body. -/
theorem defs₀_eq [h : Cert.Kernel.Facts] [h' : Cert.KernelIdeal.Facts] : Cert.Kernel.defs₀ (F := Bits) = Cert.KernelIdeal.defs₀ (F := Bits) := by
  funext pr
  cases pr with
  | tc =>
    funext l a
    match l, a with
    | 0, (t, s) => rfl
    | 1, (t, s) => rfl
    | 2, (t, s) => rfl
    | ⟨_ + 3, h⟩, _ => exact absurd h (Nat.not_lt.2 (Nat.le_add_left _ _))
  | _ => rfl

/-- With the pipelines' procedures beside them. -/
theorem defs_eq [h : Cert.Kernel.Facts] [h' : Cert.KernelIdeal.Facts] : Cert.Kernel.defs (F := Bits) = Cert.KernelIdeal.defs (F := Bits) :=
  congrArg (Pipeline.defs (Cert.KernelIdeal.pcfgs (F := Bits))) defs₀_eq

/-- What holds of every run of the one at the machine's floats holds of every run of the other. -/
theorem transfer [h : Cert.Kernel.Facts] [h' : Cert.KernelIdeal.Facts]
    (m : (ℓ : Loc Cert.Kernel.nD Cert.Kernel.τ Cert.Kernel.sig) → Buf (Elt Bits) ℓ) (g : Dev Cert.Kernel.nD → PrngReg) (Q : _ → Prop)
    (H : θ_run (Cert.KernelIdeal.defs (F := Bits)) (onTc (τ := Cert.KernelIdeal.τ) (Cert.KernelIdeal.main (F := Bits))) ⟨m, fun _ => 0, g⟩ Q) :
    θ_run (Cert.Kernel.defs (F := Bits)) (onTc (τ := Cert.Kernel.τ) (Cert.Kernel.main (F := Bits))) ⟨m, fun _ => 0, g⟩ Q := by
  rw [defs_eq]; exact H

end Cert.KernelIdeal.Run
-- ==== Proof.Frames.lean ====
/-
  The two frames of the kernel, both from the one run: as printed, and idealized.
-/
module

public import proofs.«01_k».proof.Proof.Run
public import proofs.«01_k».proof.Proof.Transfer
public import proofs.«01_k».proof.Proof.Gen.Kernel

@[expose] public section

namespace Cert.KernelIdeal.Run

open Cert.KernelIdeal Cert.KernelIdeal.Gen
open Idealize.ShloMosaic Idealize.ShloMosaic.TcCoe Idealize.SL.Sem

variable {F : FTy → Type} [FloatOps F] (m : (ℓ : Loc nD τ sig) → Buf (Elt F) ℓ)

/-- The arguments, one by one, end as launched. -/
theorem End.args {c : Dev nD} {s : MemSt nD τ sig (Elt F)} (h : End m c s) :
    s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5) :=
  ⟨h.2 _ (by simp), h.2 _ (by simp), h.2 _ (by simp), h.2 _ (by simp), h.2 _ (by simp), h.2 _ (by simp)⟩

/-- The idealized kernel's frame. -/
theorem frame_ideal : Cert.quiescent_KernelIdeal := fun m g _ =>
  (θ_run _ _ _).mono (fun _ h => ⟨fun c => (h.1 c).args, h.2⟩) (run (F := Ideal) m g)

/-- The kernel's frame. -/
theorem frame_bits : Cert.quiescent_Kernel (hKernel := Cert.Kernel.Gen.facts) := fun m g _ =>
  letI := Cert.Kernel.Gen.facts
  transfer m g _ ((θ_run _ _ _).mono (fun _ h => ⟨fun c => (h.1 c).args, h.2⟩) (run (F := Bits) m g))

end Cert.KernelIdeal.Run
-- ==== Proof.ReadOut.lean ====
/-
  What the windows hold, element by element: a staged block of an input is the array's rows at the block's place, and an
  output's array holds at every element what a body may leave there.
-/
module

public import proofs.«01_k».proof.Proof.Chain
public import Idealize.ShloMosaic.Lib.Pipeline.ArrRel
public import Idealize.ShloMosaic.Lib.ValueIdx

@[expose] public section

noncomputable section

namespace Cert.KernelIdeal.Run

open Cert.KernelIdeal Cert.KernelIdeal.Gen
open Idealize.ShloMosaic Idealize.ShloMosaic.TcCoe Idealize.ShloMosaic.ValueIdx
open Idealize.ShloMosaic.Pipeline

set_option backward.isDefEq.respectTransparency.types false

variable {F : FTy → Type} [FloatOps F]
variable (W : Dev nD → Valuation τ sig (Elt F)) (c : Dev nD)

/-- The array of an output window, at every element: a property of what the body may leave at each point, at the array's
    index under the block's. -/
theorem may_forall {p : Fin 3} {w : Fin (pin (pcfgs (F := F)) adm p).W} (hw : marks (F := F) p w = true)
    (P : (((pin (pcfgs (F := F)) adm p).win w).arr.view.loc (c.tc : Thread nD τ)).2.ty.Idx →
      Elt F (((pin (pcfgs (F := F)) adm p).win w).arr.view.loc (c.tc : Thread nD τ)).2.ty.elt → Prop)
    (hcov : ((pin (pcfgs (F := F)) adm p).win w).Covers) (harr : ((pin (pcfgs (F := F)) adm p).win w).arr.IsWhole)
    (hP : ∀ t, ∀ X, Left W p c w t X → ∀ y : (((pin (pcfgs (F := F)) adm p).win w).xblock ((pin (pcfgs (F := F)) adm p).grid.coords t)).Idx,
      P ((((pin (pcfgs (F := F)) adm p).win w).blk t).view.emb y)
        (_root_.cast (congrArg (Elt F) (((pin (pcfgs (F := F)) adm p).win w).blk t).view.elt_eq.symm)
          (X (((pin (pcfgs (F := F)) adm p).win w).xinj ((pin (pcfgs (F := F)) adm p).grid.coords t) y))))
    {A} (h : May W c p w A) (i) : P i (A i) := by
  obtain ⟨X, hX, hA⟩ := RDat.ArrAt.exists_exact h
  rw [hA (Function.update (fun _ _ _ => Classical.arbitrary _) w X) fun u _ _ => by rw [Function.update_self]]
  refine Dat.arrAt_forall_of_covers _ w P hcov (fun t hf y => ?_) i harr
  rw [RDat.withAfter_after, Function.update_self]
  exact hP t (X t) (Dat.toRRel_leaves _ hw (hX t t.isLt hf)) y

/-- A window's block at an index that the transfer moves: the array's element there. -/
theorem got_apply {p : Fin 3} {w : Fin (pin (pcfgs (F := F)) adm p).W} (t : Fin (pin (pcfgs (F := F)) adm p).N) (d)
    (j : ((pin (pcfgs (F := F)) adm p).win w).block.Idx)
    (h : ∀ a, (j a).val < ((pin (pcfgs (F := F)) adm p).win w).xsize ((pin (pcfgs (F := F)) adm p).grid.coords t) a) :
    got W c p w t d j = (((pin (pcfgs (F := F)) adm p).win w).blk t).view.read (Elt F)
      (W c (Proc.devRef .tc (arrRef (pin (pcfgs (F := F)) adm p).spec w))) fun a => ⟨(j a).val, h a⟩ := by
  unfold got Window.fill
  rw [dif_pos ((((pin (pcfgs (F := F)) adm p).win w).moved_iff _ j).mpr h)]

/-! ## The windows that hold their whole array -/

/-- The first call's input. -/
theorem x0_eq (t : Fin cfg0.N) : x0 W c t = W c (Proc.devRef .tc main_arg0) := by
  funext j
  refine (got_apply (F := F) (p := 0) (w := (0 : Fin 3)) W c t _ j ?_).trans ?_
  · exact fun a => (j a).isLt.trans_eq ((by decide +kernel : ∀ (t : Fin grid0.N) a, win0_0.size a = win0_0.xsize (grid0.coords t) a) t a)
  · refine congrArg (W c (Proc.devRef .tc main_arg0)) (funext fun a => Fin.ext ?_)
    exact Window.rect_emb_val_of_index_zero win0_0 t a ((by decide +kernel : ∀ (t : Fin grid0.N) a, win0_0.index t a = 0) t a) _

/-- The first call's weights. -/
theorem w0_eq (t : Fin cfg0.N) : w0 W c t = W c (Proc.devRef .tc main_arg2) := by
  funext j
  refine (got_apply (F := F) (p := 0) (w := (1 : Fin 3)) W c t _ j ?_).trans ?_
  · exact fun a => (j a).isLt.trans_eq ((by decide +kernel : ∀ (t : Fin grid0.N) a, win0_1.size a = win0_1.xsize (grid0.coords t) a) t a)
  · refine congrArg (W c (Proc.devRef .tc main_arg2)) (funext fun a => Fin.ext ?_)
    exact Window.rect_emb_val_of_index_zero win0_1 t a ((by decide +kernel : ∀ (t : Fin grid0.N) a, win0_1.index t a = 0) t a) _

/-- The second call's first product. -/
theorem s1_eq (t : Fin cfg1.N) : s1 W c t = W c (Proc.devRef .tc main_v2) := by
  funext j
  refine (got_apply (F := F) (p := 1) (w := (1 : Fin 7)) W c t _ j ?_).trans ?_
  · exact fun a => (j a).isLt.trans_eq ((by decide +kernel : ∀ (t : Fin grid1.N) a, win1_1.size a = win1_1.xsize (grid1.coords t) a) t a)
  · refine congrArg (W c (Proc.devRef .tc main_v2)) (funext fun a => Fin.ext ?_)
    exact Window.rect_emb_val_of_index_zero win1_1 t a ((by decide +kernel : ∀ (t : Fin grid1.N) a, win1_1.index t a = 0) t a) _

/-- The second call's bias. -/
theorem b1_eq (t : Fin cfg1.N) : b1 W c t = W c (Proc.devRef .tc main_v0) := by
  funext j
  refine (got_apply (F := F) (p := 1) (w := (2 : Fin 7)) W c t _ j ?_).trans ?_
  · exact fun a => (j a).isLt.trans_eq ((by decide +kernel : ∀ (t : Fin grid1.N) a, win1_2.size a = win1_2.xsize (grid1.coords t) a) t a)
  · refine congrArg (W c (Proc.devRef .tc main_v0)) (funext fun a => Fin.ext ?_)
    exact Window.rect_emb_val_of_index_zero win1_2 t a ((by decide +kernel : ∀ (t : Fin grid1.N) a, win1_2.index t a = 0) t a) _

/-- The second call's weights. -/
theorem w1_eq (t : Fin cfg1.N) : w1 W c t = W c (Proc.devRef .tc main_arg4) := by
  funext j
  refine (got_apply (F := F) (p := 1) (w := (3 : Fin 7)) W c t _ j ?_).trans ?_
  · exact fun a => (j a).isLt.trans_eq ((by decide +kernel : ∀ (t : Fin grid1.N) a, win1_3.size a = win1_3.xsize (grid1.coords t) a) t a)
  · refine congrArg (W c (Proc.devRef .tc main_arg4)) (funext fun a => Fin.ext ?_)
    exact Window.rect_emb_val_of_index_zero win1_3 t a ((by decide +kernel : ∀ (t : Fin grid1.N) a, win1_3.index t a = 0) t a) _

/-- The third call's second product. -/
theorem s2_eq (t : Fin cfg2.N) : s2 W c t = W c (Proc.devRef .tc main_v3_0) := by
  funext j
  refine (got_apply (F := F) (p := 2) (w := (1 : Fin 4)) W c t _ j ?_).trans ?_
  · exact fun a => (j a).isLt.trans_eq ((by decide +kernel : ∀ (t : Fin grid2.N) a, win2_1.size a = win2_1.xsize (grid2.coords t) a) t a)
  · refine congrArg (W c (Proc.devRef .tc main_v3_0)) (funext fun a => Fin.ext ?_)
    exact Window.rect_emb_val_of_index_zero win2_1 t a ((by decide +kernel : ∀ (t : Fin grid2.N) a, win2_1.index t a = 0) t a) _

/-- The third call's row. -/
theorem b2_eq (t : Fin cfg2.N) : b2 W c t = W c (Proc.devRef .tc main_v6) := by
  funext j
  refine (got_apply (F := F) (p := 2) (w := (2 : Fin 4)) W c t _ j ?_).trans ?_
  · exact fun a => (j a).isLt.trans_eq ((by decide +kernel : ∀ (t : Fin grid2.N) a, win2_2.size a = win2_2.xsize (grid2.coords t) a) t a)
  · refine congrArg (W c (Proc.devRef .tc main_v6)) (funext fun a => Fin.ext ?_)
    exact Window.rect_emb_val_of_index_zero win2_2 t a ((by decide +kernel : ∀ (t : Fin grid2.N) a, win2_2.index t a = 0) t a) _

/-! ## The windows that hold rows of their array -/

/-- The second call's block of the matrix, at a row within the matrix. -/
theorem a1_apply (t : Fin cfg1.N) (d) (i : Fin 256) (k : Fin 10000) (r : Fin 10000) (hr : r.val = t.val * 256 + i.val) :
    a1 W c t d (ix2 i k) = (W c (Proc.devRef .tc main_arg1) : Vec F S10000x10000 .f32) (ix2 r k) := by
  refine (got_apply (F := F) (p := 1) (w := (0 : Fin 7)) W c t _ (ix2 i k) ?_).trans ?_
  · intro a
    by_cases ha : a = (0 : Fin 2)
    · subst ha
      exact lt_of_lt_of_eq (show i.val < min 256 (10000 - t.val * 256) by omega)
        ((by decide +kernel : ∀ (t : Fin grid1.N), min 256 (10000 - t.val * 256) = win1_0.xsize (grid1.coords t) 0) t)
    · exact (Fin.isLt _).trans_eq ((by decide +kernel : ∀ (t : Fin grid1.N) (a : Fin 2), a ≠ 0 → win1_0.size a = win1_0.xsize (grid1.coords t) a) t a ha)
  · refine congrArg (W c (Proc.devRef .tc main_arg1)) (funext fun a => Fin.ext ?_)
    have h0 := (by decide +kernel : ∀ (t : Fin grid1.N), win1_0.index t 0 = t.val ∧ win1_0.index t 1 = 0) t
    refine (Window.rect_emb_val win1_0 t _ a).trans ?_
    revert a
    refine Fin.forall_fin_two.mpr ⟨?_, ?_⟩
    · show win1_0.index t 0 * 256 + i.val = r.val
      rw [h0.1, hr]
    · show win1_0.index t 1 * 10000 + k.val = k.val
      rw [h0.2]; omega

/-- The third call's block of the scaled matrix, at a row within the matrix. -/
theorem q2_apply (t : Fin cfg2.N) (d) (i : Fin 512) (k : Fin 10000) (r : Fin 10000) (hr : r.val = t.val * 512 + i.val) :
    q2 W c t d (ix2 i k) = (W c (Proc.devRef .tc main_v3_1) : Vec F S10000x10000 .fp8e4m3) (ix2 r k) := by
  refine (got_apply (F := F) (p := 2) (w := (0 : Fin 4)) W c t _ (ix2 i k) ?_).trans ?_
  · intro a
    by_cases ha : a = (0 : Fin 2)
    · subst ha
      exact lt_of_lt_of_eq (show i.val < min 512 (10000 - t.val * 512) by omega)
        ((by decide +kernel : ∀ (t : Fin grid2.N), min 512 (10000 - t.val * 512) = win2_0.xsize (grid2.coords t) 0) t)
    · exact (Fin.isLt _).trans_eq ((by decide +kernel : ∀ (t : Fin grid2.N) (a : Fin 2), a ≠ 0 → win2_0.size a = win2_0.xsize (grid2.coords t) a) t a ha)
  · refine congrArg (W c (Proc.devRef .tc main_v3_1)) (funext fun a => Fin.ext ?_)
    have h0 := (by decide +kernel : ∀ (t : Fin grid2.N), win2_0.index t 0 = t.val ∧ win2_0.index t 1 = 0) t
    refine (Window.rect_emb_val win2_0 t _ a).trans ?_
    revert a
    refine Fin.forall_fin_two.mpr ⟨?_, ?_⟩
    · show win2_0.index t 0 * 512 + i.val = r.val
      rw [h0.1, hr]
    · show win2_0.index t 1 * 10000 + k.val = k.val
      rw [h0.2]; omega

/-! ## What the output arrays hold -/

/-- The first pallas_call leaves its product. -/
theorem may_s1 {y : Vec F S10000x128 .bf16} (h : May W c 0 (2 : Fin 3) y) :
    y = k0_pay1 (W c (Proc.devRef .tc main_arg0)) (W c (Proc.devRef .tc main_arg2)) := by
  obtain ⟨X, hX, hy⟩ := RDat.ArrAt.emb_eq_of_wholeAt h (t₀ := (⟨0, by decide⟩ : Fin grid0.N)) (by decide +kernel : win0_2.WholeAt _)
  have hX := Dat.toRRel_leaves _ (by rfl) hX
  have hX : X = k0_pay1 (x0 W c ⟨0, by decide⟩) (w0 W c ⟨0, by decide⟩) := hX
  rw [x0_eq, w0_eq] at hX
  subst hX
  exact funext fun j => hy j

/-- The second leaves, in its last window, a running sum of all its points. -/
theorem may_ms {y : Vec F S1x64 .f32} (h : May W c 1 (6 : Fin 7) y) : Sums W c 39 (by decide) y := by
  obtain ⟨X, hX, hy⟩ := RDat.ArrAt.emb_eq_of_wholeAt h (t₀ := (⟨39, by decide⟩ : Fin grid1.N)) (by decide +kernel : win1_6.WholeAt _)
  have hX := Dat.toRRel_leaves _ (by rfl) hX
  have hX : Sums W c 39 (by decide) X := hX
  have e : y = X := funext fun j => hy j
  rw [e]; exact hX

/-- Its first output holds, at row `r`, what the body may leave there at the point `t` of that row. -/
theorem may_s2q {y : Vec F S10000x64 .fp8e4m3} (h : May W c 1 (4 : Fin 7) y) (r : Fin 10000) (j : Fin 64) :
    ∃ (t : Fin cfg1.N) (i : Fin 256) (d : _), r.val = t.val * 256 + i.val
      ∧ y (ix2 r j) = k1_pay4 (a1 W c t d) (s1 W c t) (b1 W c t) (w1 W c t) (ix2 i j) := by
  refine may_forall (F := F) W c (p := 1) (w := (4 : Fin 7)) (by rfl) (fun (x : S10000x64.Idx) (v : Elt F .fp8e4m3) =>
    ∃ (t : Fin cfg1.N) (i : Fin 256) (d : _), (x 0).val = t.val * 256 + i.val
      ∧ v = k1_pay4 (a1 W c t d) (s1 W c t) (b1 W c t) (w1 W c t) (ix2 i (x 1))) (by decide +kernel : win1_4.Covers)
    (Memref.isWhole_whole _) (fun t X hX x => ?_) h (ix2 r j)
  obtain ⟨d, hX⟩ : ∃ d, X = k1_pay4 (a1 W c t d) (s1 W c t) (b1 W c t) (w1 W c t) := hX
  have h0 := (by decide +kernel : ∀ (t : Fin grid1.N), win1_4.index t 0 = t.val ∧ win1_4.index t 1 = 0) t
  refine ⟨t, win1_4.xinj (grid1.coords t) x 0, d, ?_, ?_⟩
  · refine (Window.rect_emb_val win1_4 t x 0).trans ?_
    show win1_4.index t 0 * 256 + (x 0).val = t.val * 256 + (x 0).val
    rw [h0.1]
  · rw [hX]
    refine congrArg (k1_pay4 (a1 W c t d) (s1 W c t) (b1 W c t) (w1 W c t)) (funext fun a => Fin.ext ?_)
    revert a
    refine Fin.forall_fin_two.mpr ⟨rfl, ?_⟩
    refine Eq.trans ?_ (Window.rect_emb_val win1_4 t x 1).symm
    show (x 1).val = win1_4.index t 1 * 64 + (x 1).val
    rw [h0.2]; omega

/-- Its second output holds, at row `r`, that row scaled. -/
theorem may_q {y : Vec F S10000x10000 .fp8e4m3} (h : May W c 1 (5 : Fin 7) y) (r : Fin 10000) (k : Fin 10000) :
    ∃ (t : Fin cfg1.N) (i : Fin 256) (d : _), r.val = t.val * 256 + i.val ∧ y (ix2 r k) = k1_pay5 (a1 W c t d) (ix2 i k) := by
  refine may_forall (F := F) W c (p := 1) (w := (5 : Fin 7)) (by rfl) (fun (x : S10000x10000.Idx) (v : Elt F .fp8e4m3) =>
    ∃ (t : Fin cfg1.N) (i : Fin 256) (d : _), (x 0).val = t.val * 256 + i.val
      ∧ v = k1_pay5 (a1 W c t d) (ix2 i (x 1))) (by decide +kernel : win1_5.Covers)
    (Memref.isWhole_whole _) (fun t X hX x => ?_) h (ix2 r k)
  obtain ⟨d, hX⟩ : ∃ d, X = k1_pay5 (a1 W c t d) := hX
  have h0 := (by decide +kernel : ∀ (t : Fin grid1.N), win1_5.index t 0 = t.val ∧ win1_5.index t 1 = 0) t
  refine ⟨t, win1_5.xinj (grid1.coords t) x 0, d, ?_, ?_⟩
  · refine (Window.rect_emb_val win1_5 t x 0).trans ?_
    show win1_5.index t 0 * 256 + (x 0).val = t.val * 256 + (x 0).val
    rw [h0.1]
  · rw [hX]
    refine congrArg (k1_pay5 (a1 W c t d)) (funext fun a => Fin.ext ?_)
    revert a
    refine Fin.forall_fin_two.mpr ⟨rfl, ?_⟩
    refine Eq.trans ?_ (Window.rect_emb_val win1_5 t x 1).symm
    show (x 1).val = win1_5.index t 1 * 10000 + (x 1).val
    rw [h0.2]; omega

/-- The third leaves, at row `r`, what the body may leave there at the point of that row. -/
theorem may_out {y : Vec F S10000x64 .f32} (h : May W c 2 (3 : Fin 4) y) (r : Fin 10000) (j : Fin 64) :
    ∃ (t : Fin cfg2.N) (i : Fin 512) (d : _), r.val = t.val * 512 + i.val
      ∧ y (ix2 r j) = k2_pay1 (q2 W c t d) (s2 W c t) (b2 W c t) (ix2 i j) := by
  refine may_forall (F := F) W c (p := 2) (w := (3 : Fin 4)) (by rfl) (fun (x : S10000x64.Idx) (v : Elt F .f32) =>
    ∃ (t : Fin cfg2.N) (i : Fin 512) (d : _), (x 0).val = t.val * 512 + i.val
      ∧ v = k2_pay1 (q2 W c t d) (s2 W c t) (b2 W c t) (ix2 i (x 1))) (by decide +kernel : win2_3.Covers)
    (Memref.isWhole_whole _) (fun t X hX x => ?_) h (ix2 r j)
  obtain ⟨d, hX⟩ : ∃ d, X = k2_pay1 (q2 W c t d) (s2 W c t) (b2 W c t) := hX
  have h0 := (by decide +kernel : ∀ (t : Fin grid2.N), win2_3.index t 0 = t.val ∧ win2_3.index t 1 = 0) t
  refine ⟨t, win2_3.xinj (grid2.coords t) x 0, d, ?_, ?_⟩
  · refine (Window.rect_emb_val win2_3 t x 0).trans ?_
    show win2_3.index t 0 * 512 + (x 0).val = t.val * 512 + (x 0).val
    rw [h0.1]
  · rw [hX]
    refine congrArg (k2_pay1 (q2 W c t d) (s2 W c t) (b2 W c t)) (funext fun a => Fin.ext ?_)
    revert a
    refine Fin.forall_fin_two.mpr ⟨rfl, ?_⟩
    refine Eq.trans ?_ (Window.rect_emb_val win2_3 t x 1).symm
    show (x 1).val = win2_3.index t 1 * 64 + (x 1).val
    rw [h0.2]; omega

end Cert.KernelIdeal.Run

end
-- ==== Proof.IdealOps.lean ====
/-
  The bodies' values over the extended reals, read at an index: the products as sums, the roundings the identity, the scale
  factors `2 ^ 14` and `2 ^ -14`.
-/
module

public import proofs.«01_k».proof.Proof.Gen.KernelIdeal.Skeleton
public import Idealize.ShloMosaic.Lib.MatmulPlain
public import Idealize.ShloMosaic.Lib.ValueIdx
public import Idealize.ShloMosaic.Lib.Pipeline.Value
public import Idealize.ShloMosaic.PureOps.Ideal.Laws

@[expose] public section

noncomputable section

namespace Cert.KernelIdeal.Run

open Cert.KernelIdeal Cert.KernelIdeal.Gen
open Idealize.ShloMosaic Idealize.ShloMosaic.ValueIdx

set_option backward.isDefEq.respectTransparency.types false

/-- The scale of the second kernel. -/
theorem scale_up : Ideal.ofBits .f32 0x46800000#32 = ((16384 : ℝ) : EReal) := by
  simp [Ideal.ofBits, Ideal.ieee, -EReal.coe_mul]; norm_num

/-- The scale of the third is its inverse. -/
theorem scale_down : Ideal.ofBits .f32 0x38800000#32 = ((16384⁻¹ : ℝ) : EReal) := by
  simp [Ideal.ofBits, Ideal.ieee, -EReal.coe_mul]; norm_num

/-- The first body: the product of its operands. -/
theorem pay_s1 (x : Vec Ideal S10000x128 .f32) (w : Vec Ideal S128x128 .f32) (r : Fin 10000) (h : Fin 128) :
    k0_pay1 x w (ix2 r h) = ∑ k : Fin 128, x (ix2 r k) * w (ix2 k h) := by
  refine (Ideal.matmul_plain_apply (M := 10000) (K := 128) (N := 128) none (φ₁ := .bf16) (φ₂ := .bf16) _ _ _ r h).trans ?_
  show Ideal.ofBits .f32 0x00000000#32 + _ = _
  rw [Ideal.ofBits_zero_f32, zero_add]
  rfl

/-- The hidden layer at row `i` of a block. -/
def hid {n : ℕ} (a : Vec Ideal ⟨2, ![n, 10000]⟩ .f32) (s : Vec Ideal S10000x128 .bf16) (b : Vec Ideal S1x128 .f32) (i : Fin n) (h : Fin 128) : EReal :=
  max ((∑ k : Fin 10000, a (ix2 i k) * s (ix2 k h)) + b (ix2 0 h)) 0

/-- The second body's hidden layer, as it computes it. -/
def hidVec (a : Vec Ideal S256x10000 .f32) (s : Vec Ideal S10000x128 .bf16) (b : Vec Ideal S1x128 .f32) : FVec Ideal S256x128 .bf16 :=
  truncf .bf16 (maximumf (addf (matmul (φ₂ := .bf16) dot_S256x10000_S10000x128_S256x128_1_0_0_1_n_n none (truncf .bf16 a bitsLt_bf16_f32)
      (shapeCast S10000x128 s shapeCasts_S10000x128_S10000x128) (constant S256x128 .f32 0x00000000#32))
    (broadcastTo S256x128 (shapeCast S1x128 b shapeCasts_S1x128_S1x128) broadcasts_S1x128_S256x128))
    (broadcast S256x128 (Scalar.ofBits .f32 0x00000000#32))) bitsLt_bf16_f32

/-- It is the hidden layer, element by element. -/
theorem hidVec_apply (a : Vec Ideal S256x10000 .f32) (s : Vec Ideal S10000x128 .bf16) (b : Vec Ideal S1x128 .f32) (i : Fin 256) (h : Fin 128) :
    hidVec a s b (ix2 i h) = hid a s b i h := by
  unfold hidVec hid
  rw [truncf_apply, maximumf_apply, addf_apply, shapeCast_self, shapeCast_self, broadcastTo_apply (k := ix2 0 h) (hk := Fin.forall_fin_two.mpr ⟨rfl, rfl⟩)]
  have e : (matmul (φ₂ := .bf16) dot_S256x10000_S10000x128_S256x128_1_0_0_1_n_n none (truncf .bf16 a bitsLt_bf16_f32) s
      (constant (F := Ideal) S256x128 .f32 0x00000000#32)) (ix2 i h) = ∑ k : Fin 10000, a (ix2 i k) * s (ix2 k h) := by
    refine (Ideal.matmul_plain_apply (M := 256) (K := 10000) (N := 128) none (φ₁ := .bf16) (φ₂ := .bf16) _ _ _ i h).trans ?_
    show Ideal.ofBits .f32 0x00000000#32 + _ = _
    rw [Ideal.ofBits_zero_f32, zero_add]
    rfl
  rw [e]
  show max _ (Ideal.ofBits .f32 0x00000000#32) = _
  rw [Ideal.ofBits_zero_f32]

/-- The second body's product: the hidden layer times the second weights. -/
theorem pay_s2 (a : Vec Ideal S256x10000 .f32) (s : Vec Ideal S10000x128 .bf16) (b : Vec Ideal S1x128 .f32) (w : Vec Ideal S128x64 .f32)
    (i : Fin 256) (j : Fin 64) : k1_pay3 a s b w (ix2 i j) = ∑ h : Fin 128, hid a s b i h * w (ix2 h j) := by
  refine (Ideal.matmul_plain_apply (M := 256) (K := 128) (N := 64) none (φ₁ := .bf16) (φ₂ := .bf16) (hidVec a s b) _ _ i j).trans ?_
  show Ideal.ofBits .f32 0x00000000#32 + _ = _
  rw [Ideal.ofBits_zero_f32, zero_add]
  exact Finset.sum_congr rfl fun h _ => congrArg (· * w (ix2 h j)) (hidVec_apply a s b i h)

/-- Its rounding to eight bits is the same number. -/
theorem pay_s2q (a : Vec Ideal S256x10000 .f32) (s : Vec Ideal S10000x128 .bf16) (b : Vec Ideal S1x128 .f32) (w : Vec Ideal S128x64 .f32)
    (i : Fin 256) (j : Fin 64) : k1_pay4 a s b w (ix2 i j) = k1_pay3 a s b w (ix2 i j) := rfl

/-- The scaled block. -/
theorem pay_q (a : Vec Ideal S256x10000 .f32) (i : Fin 256) (k : Fin 10000) : k1_pay5 a (ix2 i k) = a (ix2 i k) * ((16384 : ℝ) : EReal) := by
  show a (ix2 i k) * Ideal.ofBits .f32 0x46800000#32 = _
  rw [scale_up]

/-- The third body: the product, scaled back, plus the row. -/
theorem pay_out (q : Vec Ideal S512x10000 .fp8e4m3) (s : Vec Ideal S10000x64 .fp8e4m3) (b : Vec Ideal S1x64 .f32) (i : Fin 512) (j : Fin 64) :
    k2_pay1 q s b (ix2 i j) = (∑ k : Fin 10000, q (ix2 i k) * s (ix2 k j)) * ((16384⁻¹ : ℝ) : EReal) + b (ix2 0 j) := by
  refine congrArg₂ (· + ·) (congrArg₂ (· * ·) ?_ scale_down) ?_
  · refine (Ideal.matmul_plain_apply (M := 512) (K := 10000) (N := 64) none (φ₁ := .fp8e4m3) (φ₂ := .fp8e4m3) _ _ _ i j).trans ?_
    show Ideal.ofBits .f32 0x00000000#32 + _ = _
    rw [Ideal.ofBits_zero_f32, zero_add, shapeCast_self, shapeCast_self]
  · rw [shapeCast_self]
    exact broadcastTo_apply _ _ _ _ (Fin.forall_fin_two.mpr ⟨rfl, rfl⟩)

/-- A row that the second body's mask keeps is a row of the array. -/
theorem mask_row (t : Fin 40) (i : Fin 256)
    (h : IntOp.cmpi .slt (BitVec.ofNat 32 i.val + BitVec.ofNat 32 t.val * 256#32) 10000#32 = 1#1) : t.val * 256 + i.val < 10000 := by
  by_contra hn
  have ht : t = 39 := by omega
  subst ht
  have hi : 16 ≤ i.val := by omega
  revert h
  have key : ∀ i : Fin 256, 16 ≤ i.val → IntOp.cmpi .slt (BitVec.ofNat 32 i.val + BitVec.ofNat 32 39 * 256#32) 10000#32 ≠ 1#1 := by decide +kernel
  exact key i hi

/-- The column sums of what the rounding loses are zero where every row's product is a real number. -/
theorem pay_sum (g : grid1.Coords) (a : Vec Ideal S256x10000 .f32) (s : Vec Ideal S10000x128 .bf16) (b : Vec Ideal S1x128 .f32) (w : Vec Ideal S128x64 .f32)
    (h : ∀ i : Fin 256, (g 0).val * 256 + i.val < 10000 → ∀ j, ∃ v : ℝ, k1_pay3 a s b w (ix2 i j) = (v : EReal)) (j : Fin 64) :
    k1_pay6 g a s b w (ix2 0 j) = 0 := by
  unfold k1_pay6
  refine (shapeCast_apply _ _ _ (ix1 j) ?_).trans ?_
  · rw [Shape.rowMajor_val_one, Shape.rowMajor_val_two]
    show j.val = 0 * 64 + j.val
    omega
  refine (Ideal.multiReduction_add_single _ _ reduces_S256x64_S64 _ _ (ix1 j)).trans ?_
  refine Finset.sum_eq_zero fun (k : Fin 256) _ => ?_
  have e : reduces_S256x64_S64.lift (ix1 j) k = ix2 k j := Shape.idx_ext₂ rfl rfl
  rw [e, select_apply]
  by_cases hm : broadcastTo S256x64 (shapeCast S256x1 (cmpi .slt (addi (iota .tc S256x1 32 [0] iota_S256x1_d0_w32)
      (broadcast S256x1 (Scalar.muli (BitVec.ofNat 32 (g 0).val) 256#32))) (broadcast S256x1 10000#32)) shapeCasts_S256x1_S256x1)
      broadcasts_S256x1_S256x64 (ix2 k j) = 1#1
  · rw [hm, select_one]
    rw [shapeCast_self, broadcastTo_apply (k := ix2 k 0) (hk := Fin.forall_fin_two.mpr ⟨rfl, rfl⟩)] at hm
    obtain ⟨v, hv⟩ := h k (mask_row (g 0) k (by
      refine Eq.trans ?_ hm
      show _ = IntOp.cmpi .slt (iota .tc S256x1 32 [0] iota_S256x1_d0_w32 (ix2 k 0) + BitVec.ofNat 32 (g 0).val * 256#32) 10000#32
      rw [iota_single_apply])) j
    show k1_pay3 a s b w (ix2 k j) - k1_pay3 a s b w (ix2 k j) = 0
    rw [hv, ← EReal.coe_sub, sub_self, EReal.coe_zero]
  · rw [eq_zero_of_ne_one hm, select_zero]
    exact Ideal.ofBits_zero_f32

end Cert.KernelIdeal.Run

end
-- ==== Proof.Finite.lean ====
/-
  Real numbers among the extended reals, and the precondition read: every entry of the first five arguments is real.
-/
module

public import proofs.«01_k».proof.Pre_finite
public import Idealize.ShloMosaic.Lib.ReduceAll
public import Idealize.ShloMosaic.Lib.IdealHost
public import Idealize.ShloMosaic.Lib.ValueIdx
public import Idealize.ShloMosaic.PureOps.Ideal.Laws

@[expose] public section

noncomputable section

namespace Cert.KernelIdeal.Run

open Idealize.ShloMosaic Idealize.ShloMosaic.ValueIdx

/-! ## Real numbers -/

/-- `x` is a real number. -/
def IsReal (x : EReal) : Prop := ∃ v : ℝ, x = (v : EReal)

/-- A sum of two real numbers is real. -/
theorem IsReal.add {x y : EReal} : IsReal x → IsReal y → IsReal (x + y)
  | ⟨v, hv⟩, ⟨w, hw⟩ => ⟨v + w, by rw [hv, hw, EReal.coe_add]⟩

/-- A product of two real numbers is real. -/
theorem IsReal.mul {x y : EReal} : IsReal x → IsReal y → IsReal (x * y)
  | ⟨v, hv⟩, ⟨w, hw⟩ => ⟨v * w, by rw [hv, hw, EReal.coe_mul]⟩

/-- The larger of a real number and zero is real. -/
theorem IsReal.max_zero {x : EReal} : IsReal x → IsReal (max x 0)
  | ⟨v, hv⟩ => ⟨max v 0, by rw [hv, ← EReal.coe_zero]; exact (EReal.coe_strictMono.monotone.map_max).symm⟩

/-- A sum of real numbers is the real sum. -/
theorem sum_coe {n : ℕ} (f : Fin n → ℝ) : ∑ k, ((f k : ℝ) : EReal) = ((∑ k, f k : ℝ) : EReal) := by
  induction n with
  | zero => simp
  | succ n ih => rw [Fin.sum_univ_succ, Fin.sum_univ_succ, ih, EReal.coe_add]

/-- A finite sum of real numbers is real. -/
theorem IsReal.sum {n : ℕ} {f : Fin n → EReal} (h : ∀ k, IsReal (f k)) : IsReal (∑ k, f k) := by
  choose v hv using h
  exact ⟨∑ k, v k, by rw [← sum_coe]; exact Finset.sum_congr rfl fun k _ => hv k⟩

/-- Scaling each left factor of a sum of products by `u`, and the sum by its inverse, changes nothing over the real numbers. -/
theorem scaled_sum {n : ℕ} {a s : Fin n → EReal} (ha : ∀ k, IsReal (a k)) (hs : ∀ k, IsReal (s k)) {u : ℝ} (hu : u ≠ 0) :
    (∑ k, a k * (u : EReal) * s k) * ((u⁻¹ : ℝ) : EReal) = ∑ k, a k * s k := by
  choose v hv using ha
  choose w hw using hs
  have e1 : ∀ k, a k * (u : EReal) * s k = ((v k * u * w k : ℝ) : EReal) := fun k => by rw [hv, hw, EReal.coe_mul, EReal.coe_mul]
  have e2 : ∀ k, a k * s k = ((v k * w k : ℝ) : EReal) := fun k => by rw [hv, hw, EReal.coe_mul]
  rw [Finset.sum_congr rfl fun k _ => e1 k, Finset.sum_congr rfl fun k _ => e2 k, sum_coe, sum_coe, ← EReal.coe_mul, Finset.sum_mul]
  congr 1
  refine Finset.sum_congr rfl fun k _ => ?_
  field_simp

/-! ## The precondition -/

/-- A number whose magnitude is below infinity is real. -/
theorem real_of_abs_lt (x : Ideal .f32) (h : FloatOps.cmpf .olt (FloatOps.hostAbsf x) (FloatOps.ofBits (F := Ideal) .f32 0x7F800000#32) = 1#1) :
    IsReal x := by
  have htop : Ideal.ofBits .f32 0x7F800000#32 = ⊤ := by simp [Ideal.ofBits, Ideal.ieee]
  have h : Ideal.cmp .olt (max (x : EReal) (-(x : EReal))) (Ideal.ofBits .f32 0x7F800000#32) = 1#1 := h
  rw [htop] at h
  have hlt : max (x : EReal) (-(x : EReal)) < ⊤ := by
    by_contra hn
    simp [Ideal.cmp, hn] at h
  rw [max_lt_iff] at hlt
  have hb : (x : EReal) ≠ ⊥ := fun e => by rw [e] at hlt; simp at hlt
  exact ⟨EReal.toReal x, (EReal.coe_toReal hlt.1.ne hb).symm⟩

/-- The side conditions of the precondition's operations. -/
instance pre_facts : Cert.Pre_finite.Facts where
  bcast_S_S10000x128 := by decide
  reducesTo_S10000x128_S_d0_1 := by decide
  h_S_ := by decide
  bcast_S_S10000x10000 := by decide
  reducesTo_S10000x10000_S_d0_1 := by decide
  bcast_S_S128x128 := by decide
  reducesTo_S128x128_S_d0_1 := by decide
  bcast_S_S128 := by decide
  reducesTo_S128_S_d0 := by decide
  bcast_S_S128x64 := by decide
  reducesTo_S128x64_S_d0_1 := by decide

open Cert.Pre_finite in
/-- One reduction of the precondition: the array's entries are real. -/
theorem real_of_all {s : Shape} {axes : List (Fin s.rank)} (x : FVec Ideal s .f32) (hb : S_.BroadcastsInDim s (![] : Fin 0 → Fin s.rank))
    (hr : s.ReducesTo axes S_) (hu : 0 < S_.numel) (j : S_.Idx)
    (h : Host.reduce IntOp.andi (cmpf .olt (Host.absf x) (broadcastInDim s ![] hb (constant S_ .f32 0x7F800000#32))) (constantI S_ 1 1#1) hr hu j = 1#1)
    (i : s.Idx) : IsReal (x i) := by
  haveI : Subsingleton S_.Idx := ⟨fun a b => funext fun k => k.elim0⟩
  exact real_of_abs_lt _ (Host.reduce_andi_all _ _ hr hu j h i)

open Cert.Pre_finite in
/-- THE PRECONDITION READ. -/
theorem real_of_pre {x : FVec Ideal S10000x128 .f32} {adj : FVec Ideal S10000x10000 .f32} {W1 : FVec Ideal S128x128 .f32} {b1 : FVec Ideal S128 .f32}
    {W2 : FVec Ideal S128x64 .f32} {b2 : FVec Ideal S64 .f32} (h : Cert.Pre_finite.fn (F := Ideal) x adj W1 b1 W2 b2 = fun _ => 1#1) :
    (∀ i, IsReal (x i)) ∧ (∀ i, IsReal (adj i)) ∧ (∀ i, IsReal (W1 i)) ∧ (∀ i, IsReal (b1 i)) ∧ (∀ i, IsReal (W2 i)) := by
  have h := congrFun h ix0
  unfold Cert.Pre_finite.fn Cert.Pre_finite.fn_part1 at h
  obtain ⟨h, h5⟩ := IntOp.andi_eq_one.1 h
  obtain ⟨h, h4⟩ := IntOp.andi_eq_one.1 h
  obtain ⟨h, h3⟩ := IntOp.andi_eq_one.1 h
  obtain ⟨h1, h2⟩ := IntOp.andi_eq_one.1 h
  exact ⟨real_of_all _ _ _ _ _ h1, real_of_all _ _ _ _ _ h2, real_of_all _ _ _ _ _ h3, real_of_all _ _ _ _ _ h4, real_of_all _ _ _ _ _ h5⟩

end Cert.KernelIdeal.Run

end
-- ==== Proof.Spec.lean ====
/-
  The result, as sums: two layers over a dense matrix. The reference computes it, and it is a sum of products of real
  numbers where the arguments are real.
-/
module

public import proofs.«01_k».proof.Proof.Finite
public import proofs.«01_k».proof.Proof.Gen.ReferenceIdeal
public import Idealize.ShloMosaic.Lib.StackMember
public import Idealize.ShloMosaic.Lib.KernelVsHost

@[expose] public section

noncomputable section

namespace Cert.KernelIdeal.Run

open Idealize.ShloMosaic Idealize.ShloMosaic.ValueIdx

set_option backward.isDefEq.respectTransparency.types false

/-- The first product, `x W₁`. -/
def lin (x : FVec Ideal ⟨2, ![10000, 128]⟩ .f32) (W1 : FVec Ideal ⟨2, ![128, 128]⟩ .f32) (r : Fin 10000) (h : Fin 128) : EReal :=
  ∑ k : Fin 128, x (ix2 r k) * W1 (ix2 k h)

/-- The hidden layer times the second weights, `max (adj x W₁ + b₁) 0 W₂`. -/
def mid (x : FVec Ideal ⟨2, ![10000, 128]⟩ .f32) (adj : FVec Ideal ⟨2, ![10000, 10000]⟩ .f32) (W1 : FVec Ideal ⟨2, ![128, 128]⟩ .f32)
    (b1 : FVec Ideal ⟨1, ![128]⟩ .f32) (W2 : FVec Ideal ⟨2, ![128, 64]⟩ .f32) (r : Fin 10000) (j : Fin 64) : EReal :=
  ∑ h : Fin 128, max ((∑ k : Fin 10000, adj (ix2 r k) * lin x W1 k h) + b1 (ix1 h)) 0 * W2 (ix2 h j)

/-- The result, `adj mid + b₂`. -/
def res (x : FVec Ideal ⟨2, ![10000, 128]⟩ .f32) (adj : FVec Ideal ⟨2, ![10000, 10000]⟩ .f32) (W1 : FVec Ideal ⟨2, ![128, 128]⟩ .f32)
    (b1 : FVec Ideal ⟨1, ![128]⟩ .f32) (W2 : FVec Ideal ⟨2, ![128, 64]⟩ .f32) (b2 : FVec Ideal ⟨1, ![64]⟩ .f32) (r : Fin 10000) (j : Fin 64) : EReal :=
  (∑ k : Fin 10000, adj (ix2 r k) * mid x adj W1 b1 W2 k j) + b2 (ix1 j)

variable {x : FVec Ideal ⟨2, ![10000, 128]⟩ .f32} {adj : FVec Ideal ⟨2, ![10000, 10000]⟩ .f32} {W1 : FVec Ideal ⟨2, ![128, 128]⟩ .f32}
  {b1 : FVec Ideal ⟨1, ![128]⟩ .f32} {W2 : FVec Ideal ⟨2, ![128, 64]⟩ .f32}

/-- The first product is real where its factors are. -/
theorem lin_real (hx : ∀ i, IsReal (x i)) (hW : ∀ i, IsReal (W1 i)) (r : Fin 10000) (h : Fin 128) : IsReal (lin x W1 r h) :=
  IsReal.sum fun _ => (hx _).mul (hW _)

/-- The second product is real where the arguments are. -/
theorem mid_real (hx : ∀ i, IsReal (x i)) (ha : ∀ i, IsReal (adj i)) (hW : ∀ i, IsReal (W1 i)) (hb : ∀ i, IsReal (b1 i)) (hV : ∀ i, IsReal (W2 i))
    (r : Fin 10000) (j : Fin 64) : IsReal (mid x adj W1 b1 W2 r j) :=
  IsReal.sum fun _ => (((IsReal.sum fun _ => (ha _).mul (lin_real hx hW _ _)).add (hb _)).max_zero).mul (hV _)

/-- A row put under a unit axis and then down every row, read. -/
theorem row_apply {n p : ℕ} (h1 : (⟨1, ![p]⟩ : Shape).BroadcastsInDim ⟨2, ![1, p]⟩ ![1]) (h2 : (⟨2, ![1, p]⟩ : Shape).BroadcastsInDim ⟨2, ![n, p]⟩ ![0, 1])
    (b : FVec Ideal ⟨1, ![p]⟩ .f32) (r : Fin n) (h : Fin p) : broadcastInDim ⟨2, ![n, p]⟩ ![0, 1] h2 (broadcastInDim ⟨2, ![1, p]⟩ ![1] h1 b) (ix2 r h) = b (ix1 h) := by
  refine (broadcastInDim_oneRow_apply h2 _ r h).trans (broadcastInDim_apply ![1] h1 b _ (ix1 h) fun a => ?_)
  have ha : a = 0 := Subsingleton.elim _ _
  subst ha
  show h.val = if p = 1 then 0 else h.val
  have := h.isLt
  split <;> omega

open Cert.ReferenceIdeal Cert.ReferenceIdeal.Gen in
/-- THE REFERENCE'S RESULT. -/
theorem ref_apply (x : FVec Ideal S10000x128 .f32) (adj : FVec Ideal S10000x10000 .f32) (W1 : FVec Ideal S128x128 .f32) (b1 : FVec Ideal S128 .f32)
    (W2 : FVec Ideal S128x64 .f32) (b2 : FVec Ideal S64 .f32) (r : Fin 10000) (j : Fin 64) :
    addf (Host.dotGeneral dot_S10000x10000_S10000x64_S10000x64_1_0_0_1_n_n none adj (Host.dotGeneral dot_S10000x128_S128x64_S10000x64_1_0_0_1_n_n none
        (maximumf (addf (Host.dotGeneral dot_S10000x10000_S10000x128_S10000x128_1_0_0_1_n_n none adj (Host.dotGeneral dot_S10000x128_S128x128_S10000x128_1_0_0_1_n_n none x W1))
          (broadcastInDim S10000x128 ![0, 1] bcast_S1x128_S10000x128_0_1 (broadcastInDim S1x128 ![1] bcast_S128_S1x128_1 b1)))
          (broadcastInDim S10000x128 ![] bcast_S_S10000x128 (constant S_ .f32 0x00000000#32))) W2))
      (broadcastInDim S10000x64 ![0, 1] bcast_S1x64_S10000x64_0_1 (broadcastInDim S1x64 ![1] bcast_S64_S1x64_1 b2)) (ix2 r j)
      = res x adj W1 b1 W2 b2 r j := by
  rw [addf_apply, row_apply]
  refine congrArg (· + b2 (ix1 j)) ?_
  refine (StackMember.dotGeneral_plain_apply none adj _ r j).trans (Finset.sum_congr rfl fun k _ => congrArg (adj (ix2 r k) * ·) ?_)
  refine (StackMember.dotGeneral_plain_apply none _ W2 k j).trans (Finset.sum_congr rfl fun h _ => congrArg (· * W2 (ix2 h j)) ?_)
  rw [maximumf_apply, addf_apply, row_apply, broadcastInDim_scalar_apply]
  refine congrArg₂ max (congrArg (· + b1 (ix1 h)) ?_) Ideal.ofBits_zero_f32
  refine (StackMember.dotGeneral_plain_apply none adj _ k h).trans (Finset.sum_congr rfl fun l _ => congrArg (adj (ix2 k l) * ·) ?_)
  exact StackMember.dotGeneral_plain_apply none x W1 l h

end Cert.KernelIdeal.Run

end
-- ==== Proof.Value.lean ====
/-
  The value: where the arguments are real, what the kernel's three pallas_calls leave is the result as sums.
-/
module

public import proofs.«01_k».proof.Proof.ReadOut
public import proofs.«01_k».proof.Proof.IdealOps
public import proofs.«01_k».proof.Proof.Spec

@[expose] public section

noncomputable section

namespace Cert.KernelIdeal.Run

open Cert.KernelIdeal Cert.KernelIdeal.Gen
open Idealize.ShloMosaic Idealize.ShloMosaic.TcCoe Idealize.ShloMosaic.ValueIdx
open Idealize.ShloMosaic.Pipeline

set_option backward.isDefEq.respectTransparency.types false

variable (m : (ℓ : Loc nD τ sig) → Buf (Elt Ideal) ℓ) (c : Dev nD)

/-! ## The arguments -/

abbrev inX : Vec Ideal S10000x128 .f32 := m ((c.tc : Thread nD τ).loc main_arg0)
abbrev inA : Vec Ideal S10000x10000 .f32 := m ((c.tc : Thread nD τ).loc main_arg1)
abbrev inW1 : Vec Ideal S128x128 .f32 := m ((c.tc : Thread nD τ).loc main_arg2)
abbrev inB1 : Vec Ideal S128 .f32 := m ((c.tc : Thread nD τ).loc main_arg3)
abbrev inW2 : Vec Ideal S128x64 .f32 := m ((c.tc : Thread nD τ).loc main_arg4)
abbrev inB2 : Vec Ideal S64 .f32 := m ((c.tc : Thread nD τ).loc main_arg5)

/-- The second product and the result as sums, of the arguments in memory. -/
abbrev midM (r : Fin 10000) (j : Fin 64) : EReal := mid (inX m c) (inA m c) (inW1 m c) (inB1 m c) (inW2 m c) r j
abbrev resM (r : Fin 10000) (j : Fin 64) : EReal := res (inX m c) (inA m c) (inW1 m c) (inB1 m c) (inW2 m c) (inB2 m c) r j

/-- Every entry that the column sums read is real. -/
structure Reals : Prop where
  x : ∀ i, IsReal (inX m c i)
  a : ∀ i, IsReal (inA m c i)
  w1 : ∀ i, IsReal (inW1 m c i)
  b1 : ∀ i, IsReal (inB1 m c i)
  w2 : ∀ i, IsReal (inW2 m c i)

/-! ## The buffers between the items, read -/

/-- A row made of a vector. -/
theorem castRow_apply {n : ℕ} {α : Type} (v : (⟨1, ![n]⟩ : Shape).Idx → α) (h : (⟨1, ![n]⟩ : Shape).ShapeCasts ⟨2, ![1, n]⟩) (j : Fin n) :
    shapeCast ⟨2, ![1, n]⟩ v h (ix2 0 j) = v (ix1 j) := by
  refine shapeCast_apply _ _ _ (ix1 j) ?_
  rw [Shape.rowMajor_val_one, Shape.rowMajor_val_two]
  show j.val = 0 * n + j.val
  omega

/-- The first bias, made a row. -/
theorem V1_b1 : V1 m c (Proc.devRef .tc main_v0) = shapeCast S1x128 (inB1 m c) shapeCasts_S128_S1x128 := by
  simp only [V1, hostOps0]
  after_results
  rfl

/-- The second bias, made a row. -/
theorem V1_b2 : V1 m c (Proc.devRef .tc main_v1) = shapeCast S1x64 (inB2 m c) shapeCasts_S64_S1x64 := by
  simp only [V1, hostOps0]
  after_results
  rfl

variable (y : Vec Ideal S10000x128 .bf16) (o : Mid Ideal)

/-- After the first pallas_call its output holds `y`. -/
theorem U2_y : U2 m y c (Proc.devRef .tc main_v2) = y := by
  unfold U2; exact Function.update_self ..
/-- It changes nothing else. -/
theorem U2_of (r : Ref sig .tc) (h : r ≠ main_v2) : U2 m y c (Proc.devRef .tc r) = V1 m c (Proc.devRef .tc r) := by
  unfold U2; exact Function.update_of_ne (ne_ref h) _ _
/-- After the second pallas_call, its first output. -/
theorem U3_s2q : U3 m y o c (Proc.devRef .tc main_v3_0) = o.s2q := by
  unfold U3
  rw [Function.update_of_ne (ne_ref (by decide)), Function.update_of_ne (ne_ref (by decide))]
  exact Function.update_self ..
/-- Its second output. -/
theorem U3_q : U3 m y o c (Proc.devRef .tc main_v3_1) = o.q := by
  unfold U3
  rw [Function.update_of_ne (ne_ref (by decide))]
  exact Function.update_self ..
/-- Its third output. -/
theorem U3_ms : U3 m y o c (Proc.devRef .tc main_v3_2) = o.ms := by
  unfold U3
  exact Function.update_self ..
/-- It leaves the second bias. -/
theorem U3_b2 : U3 m y o c (Proc.devRef .tc main_v1) = V1 m c (Proc.devRef .tc main_v1) := by
  unfold U3
  rw [Function.update_of_ne (ne_ref (by decide)), Function.update_of_ne (ne_ref (by decide)), Function.update_of_ne (ne_ref (by decide))]
  exact U2_of m c y main_v1 (by decide)
/-- The host's operations leave the second product. -/
theorem U4_s2q : U4 m y o c (Proc.devRef .tc main_v3_0) = o.s2q := by
  unfold U4
  rw [StableHlo.after_of_writes_sub hostOps2 _ hostOps2_writes (by decide)]
  exact U3_s2q m c y o
/-- They leave the scaled matrix. -/
theorem U4_q : U4 m y o c (Proc.devRef .tc main_v3_1) = o.q := by
  unfold U4
  rw [StableHlo.after_of_writes_sub hostOps2 _ hostOps2_writes (by decide)]
  exact U3_q m c y o

/-- The row that the third kernel adds. -/
theorem U4_row : (U4 m y o c (Proc.devRef .tc main_v6) : Vec Ideal S1x64 .f32)
    = addf (F := Ideal) (s := S1x64) (φ := .f32) (mulf o.ms (broadcastInDim S1x64 ![] bcast_S_S1x64 (constant S_ .f32 0x3851B717#32))) (shapeCast S1x64 (inB2 m c) shapeCasts_S64_S1x64) := by
  rw [← V1_b2, ← U3_b2 m c y o, ← U3_ms m c y o]
  unfold U4
  simp only [hostOps2]
  after_results

/-! ## The first product -/

variable {m c y o}

/-- The first pallas_call leaves the first product. -/
theorem y_apply (h : I2 m y c) (r : Fin 10000) (k : Fin 128) : y (ix2 r k) = lin (inX m c) (inW1 m c) r k := by
  rw [may_s1 _ c h, pay_s1]
  rw [V1_of m c main_arg0 (by decide), V1_of m c main_arg2 (by decide)]
  rfl

/-! ## The second kernel -/

/-- A row of the second kernel's product, at a row of the matrix. -/
theorem mid_apply (h : I2 m y c) (t : Fin cfg1.N) (d) (i : Fin 256) (r : Fin 10000) (hr : r.val = t.val * 256 + i.val) (j : Fin 64) :
    k1_pay3 (a1 (U2 m y) c t d) (s1 (U2 m y) c t) (b1 (U2 m y) c t) (w1 (U2 m y) c t) (ix2 i j) = midM m c r j := by
  rw [pay_s2, s1_eq, b1_eq, w1_eq, U2_y, U2_of m c y main_v0 (by decide), U2_of m c y main_arg4 (by decide), V1_b1, V1_of m c main_arg4 (by decide)]
  refine Finset.sum_congr rfl fun k _ => congrArg (· * inW2 m c (ix2 k j)) ?_
  unfold hid
  rw [castRow_apply]
  refine congrArg (fun u => max (u + inB1 m c (ix1 k)) 0) (Finset.sum_congr rfl fun l _ => ?_)
  rw [a1_apply _ c t d i l r hr, U2_of m c y main_arg1 (by decide), V1_of m c main_arg1 (by decide), y_apply h]

/-- The second leaves the second product, rounded to the same number. -/
theorem s2q_apply (h2 : I2 m y c) (h3 : I3 m y o c) (r : Fin 10000) (j : Fin 64) : o.s2q (ix2 r j) = midM m c r j := by
  obtain ⟨t, i, d, hr, e⟩ := may_s2q _ c h3.1 r j
  rw [e, pay_s2q, mid_apply h2 t d i r hr]

/-- It leaves the matrix, scaled. -/
theorem q_apply (h3 : I3 m y o c) (r k : Fin 10000) : o.q (ix2 r k) = inA m c (ix2 r k) * ((16384 : ℝ) : EReal) := by
  obtain ⟨t, i, d, hr, e⟩ := may_q _ c h3.2.1 r k
  rw [e, pay_q, a1_apply _ c t d i k r hr, U2_of m c y main_arg1 (by decide), V1_of m c main_arg1 (by decide)]

/-- One block adds nothing to the column sums. -/
theorem sumAt_zero (hR : Reals m c) (h : I2 m y c) (t : Fin cfg1.N) (d) (j : Fin 64) : sumAt (U2 m y) c t d (ix2 0 j) = 0 := by
  refine pay_sum _ _ _ _ _ (fun i hi j => ?_) j
  rw [(by decide +kernel : ∀ t : Fin grid1.N, (grid1.coords t 0).val = t.val) t] at hi
  rw [mid_apply h t d i ⟨_, hi⟩ rfl]
  exact mid_real hR.x hR.a hR.w1 hR.b1 hR.w2 _ _

/-- The column sums are zero after every block. -/
theorem sums_zero (hR : Reals m c) (h : I2 m y c) (j : Fin 64) : ∀ (n : ℕ) (hn : n < cfg1.N) (X : Vec Ideal S1x64 .f32), Sums (U2 m y) c n hn X → X (ix2 0 j) = 0
  | 0, hn, X, ⟨d, e⟩ => by
    rw [e]; unfold k1_pay1
    rw [shapeCast_self]
    exact sumAt_zero hR h _ d j
  | n + 1, hn, X, ⟨d, Y, hY, e⟩ => by
    rw [e]; unfold k1_pay2
    rw [shapeCast_self, addf_apply, sums_zero hR h j n _ Y hY, sumAt_zero hR h _ d j, add_zero]

/-- It leaves column sums of zero. -/
theorem ms_apply (hR : Reals m c) (h2 : I2 m y c) (h3 : I3 m y o c) (j : Fin 64) : o.ms (ix2 0 j) = 0 :=
  sums_zero hR h2 j 39 _ _ (may_ms _ c h3.2.2)

/-! ## The third kernel -/

/-- The row that the third kernel adds is the second bias. -/
theorem row_value (hR : Reals m c) (h2 : I2 m y c) (h3 : I3 m y o c) (j : Fin 64) :
    (U4 m y o c (Proc.devRef .tc main_v6) : Vec Ideal S1x64 .f32) (ix2 0 j) = inB2 m c (ix1 j) := by
  rw [U4_row, addf_apply, mulf_apply, ms_apply hR h2 h3, castRow_apply, zero_mul, zero_add]

/-- THE VALUE. -/
theorem value {z : Vec Ideal S10000x64 .f32} (hR : Reals m c) (h2 : I2 m y c) (h3 : I3 m y o c) (h5 : I5 m y o z c) (r : Fin 10000) (j : Fin 64) :
    z (ix2 r j) = resM m c r j := by
  obtain ⟨t, i, d, hr, e⟩ := may_out _ c h5 r j
  rw [e, pay_out, s2_eq, b2_eq, row_value hR h2 h3, U4_s2q]
  refine congrArg (· + inB2 m c (ix1 j)) ?_
  refine Eq.trans (congrArg (· * ((16384⁻¹ : ℝ) : EReal)) (Finset.sum_congr rfl fun k _ => ?_))
    (scaled_sum (a := fun k => inA m c (ix2 r k)) (s := fun k => midM m c k j) (fun k => hR.a _)
      (fun k => mid_real hR.x hR.a hR.w1 hR.b1 hR.w2 _ _) (by norm_num))
  rw [q2_apply _ c t d i k r hr, U4_q, q_apply h3, s2q_apply h2 h3]

end Cert.KernelIdeal.Run

end
-- ==== Proof.Algebraic.lean ====
/-
  The value claim: from memories that agree on the arguments, real where the precondition asks, the kernel and the reference
  end with the same result.
-/
module

public import proofs.«01_k».proof.Defs
public import proofs.«01_k».proof.Proof.Value
public import proofs.«01_k».proof.Proof.Frames
public import proofs.«01_k».proof.Proof.Gen.ReferenceIdeal.Run

@[expose] public section

noncomputable section

namespace Cert.KernelIdeal.Run

open Cert.KernelIdeal Cert.KernelIdeal.Gen
open Idealize.ShloMosaic Idealize.ShloMosaic.TcCoe Idealize.ShloMosaic.ValueIdx
open Idealize.SL.Sem

/-- The result of memory `m` on core `c`, as an array. -/
def result (m : (ℓ : Loc nD τ sig) → Buf (Elt Ideal) ℓ) (c : Dev nD) : Vec Ideal S10000x64 .f32 := fun i => resM m c (i 0) (i 1)

/-- The precondition is that the entries are real. -/
theorem reals_of_pre {m : (ℓ : Loc nD τ sig) → Buf (Elt Ideal) ℓ} (h : Pre_KernelIdeal_finite m) (c : Dev nD) : Reals m c :=
  let e := real_of_pre (h c)
  ⟨e.1, e.2.1, e.2.2.1, e.2.2.2.1, e.2.2.2.2⟩

/-- What the kernel's run leaves is the result. -/
theorem End.result {m : (ℓ : Loc nD τ sig) → Buf (Elt Ideal) ℓ} {c : Dev nD} {s : MemSt nD τ sig (Elt Ideal)} (hR : Reals m c) (h : End m c s) :
    s.mem ((c.tc : Thread nD τ).loc main_v7) = result m c := by
  obtain ⟨⟨y, o, z, h2, h3, h5, e⟩, -⟩ := h
  rw [e]
  funext i
  rw [eq_ix2 i]
  exact value hR h2 h3 h5 _ _

/-- THE VALUE CLAIM. -/
theorem algebraic : Cert.algebraic_KernelIdeal_ReferenceIdeal_pre_finite (hKernelIdeal := facts) (hReferenceIdeal := Cert.ReferenceIdeal.Gen.facts)
    (hPre_finite := pre_facts) := by
  intro m g m' g' hpre hag
  refine ⟨result m, (θ_run _ _ _).mono (fun _ h c => ⟨(h.1 c).result (reals_of_pre hpre c), (h.1 c).args⟩) (run (F := Ideal) m g),
    (θ_run _ _ _).mono (fun _ h c => ⟨(h c).1.trans ?_, (h c).2⟩) (Cert.ReferenceIdeal.Value.run (F := Ideal) m' g')⟩
  obtain ⟨e0, e1, e2, e3, e4, e5⟩ := hag c
  rw [e0, e1, e2, e3, e4, e5]
  funext i
  rw [eq_ix2 i]
  exact ref_apply _ _ _ _ _ _ _ _

end Cert.KernelIdeal.Run

end
-- ==== Proof.lean ====
/-
  The certificate: the frames of the kernel, of its idealization and of the reference, that the idealization is the
  kernel's own text, and that its result is the reference's.
-/
module

public import proofs.«01_k».proof.Defs
public import proofs.«01_k».proof.Proof.Frames
public import proofs.«01_k».proof.Proof.Algebraic
public import proofs.«01_k».proof.Proof.Gen.Kernel
public import proofs.«01_k».proof.Proof.Gen.KernelIdeal
public import proofs.«01_k».proof.Proof.Gen.ReferenceIdeal
public import proofs.«01_k».proof.Proof.Gen.ReferenceIdeal.Run

@[expose] public section

namespace Cert.Proof

open Idealize.ShloMosaic Idealize.SL.Sem

/-- The reference declares no semaphore. -/
theorem no_sems {P : Prop} : SemLoc Cert.ReferenceIdeal.sig → P
  | .reg s => s.elim0
  | .dma s => s.elim0

/-- The reference's frame: its run as a list of host operations, and that such a run moves no counter. -/
theorem frame_ref : Cert.quiescent_ReferenceIdeal (hReferenceIdeal := Cert.ReferenceIdeal.Gen.facts) := fun m g _ =>
  (θ_run _ _ _).mono (fun _ h => ⟨fun c => (h c).2, funext fun s => no_sems s.2⟩) (Cert.ReferenceIdeal.Value.run (F := Ideal) m g)

/-- Everything claimed. The frames under the precondition are the frames. -/
theorem claim : Cert.Claim :=
  ⟨Cert.Kernel.Gen.facts, Cert.KernelIdeal.Gen.facts, Cert.ReferenceIdeal.Gen.facts, Cert.KernelIdeal.Run.pre_facts,
    Cert.KernelIdeal.Run.frame_bits, Cert.KernelIdeal.Run.frame_ideal, fun m g _ => Cert.KernelIdeal.Run.frame_ideal m g trivial,
    frame_ref, fun m g _ => frame_ref m g trivial, trivial, Cert.KernelIdeal.Run.algebraic⟩

end Cert.Proof
